-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1152x7168 : Shape := ⟨3, ![16, 1152, 7168]⟩
abbrev S3456x4608 : Shape := ⟨2, ![3456, 4608]⟩
abbrev S4608 : Shape := ⟨1, ![4608]⟩
abbrev S256x4608 : Shape := ⟨2, ![256, 4608]⟩
abbrev S18432x7168 : Shape := ⟨2, ![18432, 7168]⟩
abbrev S1x4608 : Shape := ⟨2, ![1, 4608]⟩
abbrev S18432x4608 : Shape := ⟨2, ![18432, 4608]⟩
abbrev S18432x6912 : Shape := ⟨2, ![18432, 6912]⟩
abbrev S16x1x1152 : Shape := ⟨3, ![16, 1, 1152]⟩
abbrev S64x7168 : Shape := ⟨2, ![64, 7168]⟩
abbrev S3456x256 : Shape := ⟨2, ![3456, 256]⟩
abbrev S1x256 : Shape := ⟨2, ![1, 256]⟩
abbrev S256x256 : Shape := ⟨2, ![256, 256]⟩
abbrev S1152x256 : Shape := ⟨2, ![1152, 256]⟩
abbrev S64x6912 : Shape := ⟨2, ![64, 6912]⟩
abbrev S1x1x1152 : Shape := ⟨3, ![1, 1, 1152]⟩
abbrev S2x1152x7168 : Shape := ⟨3, ![2, 1152, 7168]⟩
abbrev S2x1152x128 : Shape := ⟨3, ![2, 1152, 128]⟩
abbrev S64 : Shape := ⟨1, ![64]⟩
abbrev S64x1 : Shape := ⟨2, ![64, 1]⟩
abbrev S1x64x6912 : Shape := ⟨3, ![1, 64, 6912]⟩
abbrev S64x256 : Shape := ⟨2, ![64, 256]⟩
abbrev S1x64x256 : Shape := ⟨3, ![1, 64, 256]⟩
abbrev S64x128 : Shape := ⟨2, ![64, 128]⟩
abbrev S1x64x128 : Shape := ⟨3, ![1, 64, 128]⟩
abbrev S6912x256 : Shape := ⟨2, ![6912, 256]⟩
abbrev S256 : Shape := ⟨1, ![256]⟩
abbrev S1x1152x6912 : Shape := ⟨3, ![1, 1152, 6912]⟩
abbrev S1152x6912 : Shape := ⟨2, ![1152, 6912]⟩
abbrev S1x1152x256 : Shape := ⟨3, ![1, 1152, 256]⟩
abbrev S1x1152x128 : Shape := ⟨3, ![1, 1152, 128]⟩
abbrev S1152x128 : Shape := ⟨2, ![1152, 128]⟩
abbrev S1x128 : Shape := ⟨2, ![1, 128]⟩
abbrev S1x128x128 : Shape := ⟨3, ![1, 128, 128]⟩
abbrev S128x128 : Shape := ⟨2, ![128, 128]⟩
abbrev S1x1x128 : Shape := ⟨3, ![1, 1, 128]⟩

abbrev nBuf : Space → Nat
  | .hbm => 10
  | .vmem => 19
  | .smem => 0
  | _ => 0

abbrev bufTy : (tb : Table) → Fin (tcTables nBuf tb) → BufTy
  | .hbm, ⟨0, _⟩ => ⟨S16x1152x7168, .bf16⟩
  | .hbm, ⟨1, _⟩ => ⟨S3456x4608, .i8⟩
  | .hbm, ⟨2, _⟩ => ⟨S4608, .f32⟩
  | .hbm, ⟨3, _⟩ => ⟨S256x4608, .bf16⟩
  | .hbm, ⟨4, _⟩ => ⟨S18432x7168, .bf16⟩
  | .hbm, ⟨5, _⟩ => ⟨S1x4608, .f32⟩
  | .hbm, ⟨6, _⟩ => ⟨S18432x4608, .bf16⟩
  | .hbm, ⟨7, _⟩ => ⟨S18432x6912, .i8⟩
  | .hbm, ⟨8, _⟩ => ⟨S16x1x1152, .f32⟩
  | .hbm, ⟨9, _⟩ => ⟨S16x1x1152, .f32⟩
  | .local _ .vmem, ⟨0, _⟩ => ⟨S64x7168, .bf16⟩
  | .local _ .vmem, ⟨1, _⟩ => ⟨S64x7168, .bf16⟩
  | .local _ .vmem, ⟨2, _⟩ => ⟨S3456x256, .i8⟩
  | .local _ .vmem, ⟨3, _⟩ => ⟨S3456x256, .i8⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S1152x256, .bf16⟩
  | .local _ .vmem, ⟨9, _⟩ => ⟨S1152x256, .bf16⟩
  | .local _ .vmem, ⟨10, _⟩ => ⟨S64x6912, .i8⟩
  | .local _ .vmem, ⟨11, _⟩ => ⟨S64x6912, .i8⟩
  | .local _ .vmem, ⟨12, _⟩ => ⟨S1x1x1152, .f32⟩
  | .local _ .vmem, ⟨13, _⟩ => ⟨S1x1x1152, .f32⟩
  | .local _ .vmem, ⟨14, _⟩ => ⟨S1x1x1152, .f32⟩
  | .local _ .vmem, ⟨15, _⟩ => ⟨S1x1x1152, .f32⟩
  | .local _ .vmem, ⟨16, _⟩ => ⟨S2x1152x7168, .bf16⟩
  | .local _ .vmem, ⟨17, _⟩ => ⟨S2x1152x128, .f32⟩
  | .local _ .vmem, ⟨18, _⟩ => ⟨S2x1152x128, .f32⟩
  | _, _ => ⟨S16x1152x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![17, 18], ![false, false]⟩

def k0_mult1 (i : grid0.Coords) : BitVec 32 :=
  let arg1 : BitVec 32 := BitVec.ofNat 32 (i 1).val
  let c64_i32 : BitVec 32 := 64#32
  let v2 : BitVec 32 := Scalar.muli arg1 c64_i32
  v2
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off1 (i : grid0.Coords) : Fin 3 → Nat :=
  let arg0 : BitVec 32 := BitVec.ofNat 32 (i 0).val
  let c2_i32 : BitVec 32 := 2#32
  let v0 : BitVec 32 := Scalar.remsi arg0 c2_i32
  let v43 : Index := Scalar.indexCast v0
  let arg1 : BitVec 32 := BitVec.ofNat 32 (i 1).val
  let c64_i32 : BitVec 32 := 64#32
  let v2 : BitVec 32 := Scalar.muli arg1 c64_i32
  let v3 : BitVec 32 := v2
  let v44 : Index := Scalar.indexCast v3
  let c0_12 : Index := 0#32
  ![v43.toNat, v44.toNat, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v50 : Index := Scalar.indexCast v0
  let arg1 : BitVec 32 := BitVec.ofNat 32 (i 1).val
  let c64_i32 : BitVec 32 := 64#32
  let v2 : BitVec 32 := Scalar.muli arg1 c64_i32
  let v3 : BitVec 32 := v2
  let v51 : Index := Scalar.indexCast v3
  let c6912_14 : Index := 6912#32
  ![v50.toNat, v51.toNat, 6912]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v57 : Index := Scalar.indexCast v0
  let arg1 : BitVec 32 := BitVec.ofNat 32 (i 1).val
  let c64_i32 : BitVec 32 := 64#32
  let v2 : BitVec 32 := Scalar.muli arg1 c64_i32
  let v3 : BitVec 32 := v2
  let v58 : Index := Scalar.indexCast v3
  let c0_15 : Index := 0#32
  ![v57.toNat, v58.toNat, 0]
def k0_cond2 (i : grid0.Coords) : BitVec 1 :=
  let arg0 : BitVec 32 := BitVec.ofNat 32 (i 0).val
  let c0_i32_1 : BitVec 32 := 0#32
  let v7 : BitVec 1 := Scalar.cmpi .sgt arg0 c0_i32_1
  let v8 : BitVec 32 := Scalar.extui v7
  let c0_i32_2 : BitVec 32 := 0#32
  let v9 : BitVec 1 := Scalar.cmpi .ne v8 c0_i32_2
  v9

def k0_off4 (i : grid0.Coords) : Fin 3 → Nat :=
  let arg0 : BitVec 32 := BitVec.ofNat 32 (i 0).val
  let c2_i32 : BitVec 32 := 2#32
  let v0 : BitVec 32 := Scalar.remsi arg0 c2_i32
  let v43 : Index := Scalar.indexCast v0
  let arg1 : BitVec 32 := BitVec.ofNat 32 (i 1).val
  let c64_i32 : BitVec 32 := 64#32
  let v2 : BitVec 32 := Scalar.muli arg1 c64_i32
  let v3 : BitVec 32 := v2
  let v44 : Index := Scalar.indexCast v3
  let c0_12 : Index := 0#32
  ![v43.toNat, v44.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v50 : Index := Scalar.indexCast v0
  let arg1 : BitVec 32 := BitVec.ofNat 32 (i 1).val
  let c64_i32 : BitVec 32 := 64#32
  let v2 : BitVec 32 := Scalar.muli arg1 c64_i32
  let v3 : BitVec 32 := v2
  let v51 : Index := Scalar.indexCast v3
  let c6912_14 : Index := 6912#32
  ![v50.toNat, v51.toNat, 6912]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v57 : Index := Scalar.indexCast v0
  let arg1 : BitVec 32 := BitVec.ofNat 32 (i 1).val
  let c64_i32 : BitVec 32 := 64#32
  let v2 : BitVec 32 := Scalar.muli arg1 c64_i32
  let v3 : BitVec 32 := v2
  let v58 : Index := Scalar.indexCast v3
  let c0_15 : Index := 0#32
  ![v57.toNat, v58.toNat, 0]
def k0_off7 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v95 : Index := Scalar.indexCast v1
  let c0_25 : Index := 0#32
  let c0_26 : Index := 0#32
  ![v95.toNat, 0, 0]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v99 : Index := Scalar.indexCast v1
  let c0_28 : Index := 0#32
  let c6912_29 : Index := 6912#32
  ![v99.toNat, 0, 6912]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v107 : Index := Scalar.indexCast v1
  let c0_35 : Index := 0#32
  let c0_36 : Index := 0#32
  ![v107.toNat, 0, 0]
def k0_cond3 (i : grid0.Coords) : BitVec 1 :=
  let arg1 : BitVec 32 := BitVec.ofNat 32 (i 1).val
  let c17_i32 : BitVec 32 := 17#32
  let v10 : BitVec 1 := Scalar.cmpi .eq arg1 c17_i32
  let arg0 : BitVec 32 := BitVec.ofNat 32 (i 0).val
  let c16_i32 : BitVec 32 := 16#32
  let v11 : BitVec 1 := Scalar.cmpi .slt arg0 c16_i32
  let v12 : BitVec 1 := Scalar.andi v10 v11
  let v13 : BitVec 32 := Scalar.extui v12
  let c0_i32_3 : BitVec 32 := 0#32
  let v14 : BitVec 1 := Scalar.cmpi .ne v13 c0_i32_3
  v14

def k0_off10 (i : grid0.Coords) : Fin 3 → Nat :=
  let arg0 : BitVec 32 := BitVec.ofNat 32 (i 0).val
  let c2_i32 : BitVec 32 := 2#32
  let v0 : BitVec 32 := Scalar.remsi arg0 c2_i32
  let v15 : Index := Scalar.indexCast v0
  let c0 : Index := 0#32
  let c0_4 : Index := 0#32
  ![v15.toNat, 0, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v31 : Index := Scalar.indexCast v0
  let c128 : Index := 128#32
  let c0_13 : Index := 0#32
  ![v31.toNat, 128, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v47 : Index := Scalar.indexCast v0
  let c256 : Index := 256#32
  let c0_22 : Index := 0#32
  ![v47.toNat, 256, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v63 : Index := Scalar.indexCast v0
  let c384 : Index := 384#32
  let c0_31 : Index := 0#32
  ![v63.toNat, 384, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v79 : Index := Scalar.indexCast v0
  let c512 : Index := 512#32
  let c0_40 : Index := 0#32
  ![v79.toNat, 512, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v95 : Index := Scalar.indexCast v0
  let c640 : Index := 640#32
  let c0_49 : Index := 0#32
  ![v95.toNat, 640, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v111 : Index := Scalar.indexCast v0
  let c768 : Index := 768#32
  let c0_58 : Index := 0#32
  ![v111.toNat, 768, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v127 : Index := Scalar.indexCast v0
  let c896 : Index := 896#32
  let c0_67 : Index := 0#32
  ![v127.toNat, 896, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v143 : Index := Scalar.indexCast v0
  let c1024 : Index := 1024#32
  let c0_76 : Index := 0#32
  ![v143.toNat, 1024, 0]
def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c287_i32 : BitVec 32 := 287#32
  let v2 : BitVec 32 := Scalar.minsi v1 c287_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c287_i32 : BitVec 32 := 287#32
  let v2 : BitVec 32 := Scalar.minsi v1 c287_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3456x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x6912 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16x1152x7168 : Shape := ⟨3, ![16, 1152, 7168]⟩
abbrev S3456x4608 : Shape := ⟨2, ![3456, 4608]⟩
abbrev S4608 : Shape := ⟨1, ![4608]⟩
abbrev S256x4608 : Shape := ⟨2, ![256, 4608]⟩
abbrev S16x1152x6912 : Shape := ⟨3, ![16, 1152, 6912]⟩
abbrev S16x1152x256 : Shape := ⟨3, ![16, 1152, 256]⟩
abbrev S_ : Shape := ⟨0, ![]⟩
abbrev S16x1152 : Shape := ⟨2, ![16, 1152]⟩
abbrev S16x1152x1 : Shape := ⟨3, ![16, 1152, 1]⟩
abbrev S3456x1x4608 : Shape := ⟨3, ![3456, 1, 4608]⟩
abbrev S3456x2x4608 : Shape := ⟨3, ![3456, 2, 4608]⟩
abbrev S6912x4608 : Shape := ⟨2, ![6912, 4608]⟩
abbrev S16x1152x4608 : Shape := ⟨3, ![16, 1152, 4608]⟩
abbrev S1x1x4608 : Shape := ⟨3, ![1, 1, 4608]⟩
abbrev S18432x4608 : Shape := ⟨2, ![18432, 4608]⟩
abbrev S18432x6912 : Shape := ⟨2, ![18432, 6912]⟩
abbrev S16x1x1152 : Shape := ⟨3, ![16, 1, 1152]⟩

abbrev nBuf : Space → Nat
  | .hbm => 91
  | .vmem => 0
  | .smem => 0
  | _ => 0

abbrev bufTy : (tb : Table) → Fin (tcTables nBuf tb) → BufTy
  | .hbm, ⟨0, _⟩ => ⟨S16x1152x7168, .bf16⟩
  | .hbm, ⟨1, _⟩ => ⟨S3456x4608, .i8⟩
  | .hbm, ⟨2, _⟩ => ⟨S4608, .f32⟩
  | .hbm, ⟨3, _⟩ => ⟨S256x4608, .bf16⟩
  | .hbm, ⟨4, _⟩ => ⟨S16x1152x6912, .bf16⟩
  | .hbm, ⟨5, _⟩ => ⟨S16x1152x256, .bf16⟩
  | .hbm, ⟨6, _⟩ => ⟨S16x1152x6912, .f32⟩
  | .hbm, ⟨7, _⟩ => ⟨S_, .f32⟩
  | .hbm, ⟨8, _⟩ => ⟨S16x1152, .f32⟩
  | .hbm, ⟨9, _⟩ => ⟨S_, .f32⟩
  | .hbm, ⟨10, _⟩ => ⟨S16x1152, .f32⟩
  | .hbm, ⟨11, _⟩ => ⟨S16x1152, .i1⟩
  | .hbm, ⟨12, _⟩ => ⟨S16x1152, .f32⟩
  | .hbm, ⟨13, _⟩ => ⟨S_, .f32⟩
  | .hbm, ⟨14, _⟩ => ⟨S16x1152, .f32⟩
  | .hbm, ⟨15, _⟩ => ⟨S16x1152, .f32⟩
  | .hbm, ⟨16, _⟩ => ⟨S_, .f32⟩
  | .hbm, ⟨17, _⟩ => ⟨S16x1152, .f32⟩
  | .hbm, ⟨18, _⟩ => ⟨S16x1152, .f32⟩
  | .hbm, ⟨19, _⟩ => ⟨S16x1152x1, .f32⟩
  | .hbm, ⟨20, _⟩ => ⟨S16x1152x6912, .f32⟩
  | .hbm, ⟨21, _⟩ => ⟨S16x1152x6912, .f32⟩
  | .hbm, ⟨22, _⟩ => ⟨S16x1152x1, .f32⟩
  | .hbm, ⟨23, _⟩ => ⟨S16x1152x6912, .f32⟩
  | .hbm, ⟨24, _⟩ => ⟨S16x1152x6912, .f32⟩
  | .hbm, ⟨25, _⟩ => ⟨S16x1152x6912, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x1152x6912, .f32⟩
  | .hbm, ⟨30, _⟩ => ⟨S16x1152x6912, .f32⟩
  | .hbm, ⟨31, _⟩ => ⟨S_, .f32⟩
  | .hbm, ⟨32, _⟩ => ⟨S16x1152x6912, .f32⟩
  | .hbm, ⟨33, _⟩ => ⟨S16x1152x6912, .f32⟩
  | .hbm, ⟨34, _⟩ => ⟨S16x1152x6912, .i32⟩
  | .hbm, ⟨35, _⟩ => ⟨S16x1152x6912, .i8⟩
  | .hbm, ⟨36, _⟩ => ⟨S3456x4608, .i32⟩
  | .hbm, ⟨37, _⟩ => ⟨S_, .i32⟩
  | .hbm, ⟨38, _⟩ => ⟨S3456x4608, .i32⟩
  | .hbm, ⟨39, _⟩ => ⟨S3456x4608, .i32⟩
  | .hbm, ⟨40, _⟩ => ⟨S_, .i32⟩
  | .hbm, ⟨41, _⟩ => ⟨S3456x4608, .i32⟩
  | .hbm, ⟨42, _⟩ => ⟨S3456x4608, .i1⟩
  | .hbm, ⟨43, _⟩ => ⟨S_, .i32⟩
  | .hbm, ⟨44, _⟩ => ⟨S3456x4608, .i32⟩
  | .hbm, ⟨45, _⟩ => ⟨S3456x4608, .i32⟩
  | .hbm, ⟨46, _⟩ => ⟨S3456x4608, .i32⟩
  | .hbm, ⟨47, _⟩ => ⟨S_, .i32⟩
  | .hbm, ⟨48, _⟩ => ⟨S3456x4608, .i32⟩
  | .hbm, ⟨49, _⟩ => ⟨S3456x4608, .i32⟩
  | .hbm, ⟨50, _⟩ => ⟨S_, .i32⟩
  | .hbm, ⟨51, _⟩ => ⟨S3456x4608, .i32⟩
  | .hbm, ⟨52, _⟩ => ⟨S3456x4608, .i32⟩
  | .hbm, ⟨53, _⟩ => ⟨S_, .i32⟩
  | .hbm, ⟨54, _⟩ => ⟨S3456x4608, .i32⟩
  | .hbm, ⟨55, _⟩ => ⟨S3456x4608, .i1⟩
  | .hbm, ⟨56, _⟩ => ⟨S_, .i32⟩
  | .hbm, ⟨57, _⟩ => ⟨S3456x4608, .i32⟩
  | .hbm, ⟨58, _⟩ => ⟨S3456x4608, .i32⟩
  | .hbm, ⟨59, _⟩ => ⟨S3456x4608, .i32⟩
  | .hbm, ⟨60, _⟩ => ⟨S3456x1x4608, .i32⟩
  | .hbm, ⟨61, _⟩ => ⟨S3456x1x4608, .i32⟩
  | .hbm, ⟨62, _⟩ => ⟨S3456x2x4608, .i32⟩
  | .hbm, ⟨63, _⟩ => ⟨S6912x4608, .i32⟩
  | .hbm, ⟨64, _⟩ => ⟨S16x1152x6912, .i32⟩
  | .hbm, ⟨65, _⟩ => ⟨S16x1152x6912, .bf16⟩
  | .hbm, ⟨66, _⟩ => ⟨S6912x4608, .bf16⟩
  | .hbm, ⟨67, _⟩ => ⟨S16x1152x4608, .f32⟩
  | .hbm, ⟨68, _⟩ => ⟨S_, .i32⟩
  | .hbm, ⟨69, _⟩ => ⟨S4608, .i32⟩
  | .hbm, ⟨70, _⟩ => ⟨S4608, .f32⟩
  | .hbm, ⟨71, _⟩ => ⟨S16x1152x4608, .f32⟩
  | .hbm, ⟨72, _⟩ => ⟨S16x1152x1, .f32⟩
  | .hbm, ⟨73, _⟩ => ⟨S1x1x4608, .f32⟩
  | .hbm, ⟨74, _⟩ => ⟨S16x1152x4608, .f32⟩
  | .hbm, ⟨75, _⟩ => ⟨S16x1152x4608, .f32⟩
  | .hbm, ⟨76, _⟩ => ⟨S16x1152x4608, .f32⟩
  | .hbm, ⟨77, _⟩ => ⟨S16x1152x4608, .f32⟩
  | .hbm, ⟨78, _⟩ => ⟨S16x1152x1, .f32⟩
  | .hbm, ⟨79, _⟩ => ⟨S4608, .f32⟩
  | .hbm, ⟨80, _⟩ => ⟨S1x1x4608, .f32⟩
  | .hbm, ⟨81, _⟩ => ⟨S16x1152x4608, .f32⟩
  | .hbm, ⟨82, _⟩ => ⟨S16x1152x4608, .f32⟩
  | .hbm, ⟨83, _⟩ => ⟨S16x1152x4608, .f32⟩
  | .hbm, ⟨84, _⟩ => ⟨S16x1152x4608, .f32⟩
  | .hbm, ⟨85, _⟩ => ⟨S16x1152x4608, .f32⟩
  | .hbm, ⟨86, _⟩ => ⟨S16x1152x4608, .bf16⟩
  | .hbm, ⟨87, _⟩ => ⟨S18432x4608, .bf16⟩
  | .hbm, ⟨88, _⟩ => ⟨S18432x6912, .i8⟩
  | .hbm, ⟨89, _⟩ => ⟨S16x1x1152, .f32⟩
  | .hbm, ⟨90, _⟩ => ⟨S16x1x1152, .f32⟩
  | _, _ => ⟨S16x1152x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proof.Kern.Split.lean ====
/- The kernel body cut into its three pieces: QUANTISE (sixty-four rows of the activations into the carried scratch),
   MULTIPLY (one 1152 × 256 block of the result from the scratch of the block row before) and EMIT (the scales and
   the minima of a finished block row). The printed body is these three under its conditions, by definitional
   unfolding, so that each piece's effect is proved once, wherever it occurs. -/
module

public import proofs.«01_k».proof.Proof.Gen.KernelIdeal.Skeleton

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-- QUANTISE: the sixty-four rows in `arg2` to codes (`arg7`), and codes, side columns, scales and minima to the
    scratch at the rectangles of offsets `oA`, `oB`, `oS`. -/
def quantProg (arg2 : Memref sig .tc .vmem S64x7168 .bf16) (arg7 : Memref sig .tc .vmem S64x6912 .i8) (harg7 : arg7.IsWhole)
    (arg10 : Memref sig .tc .vmem S2x1152x7168 .bf16) (harg10 : arg10.IsWhole) (arg11 : Memref sig .tc .vmem S2x1152x128 .f32)
    (arg12 : Memref sig .tc .vmem S2x1152x128 .f32) (oA oB oS : Fin 3 → Nat)
    (iA : ∀ a, oA a + S1x64x6912.size a ≤ S2x1152x7168.size a) (pA : (Rect.unit (s := S2x1152x7168) oA S1x64x6912.size iA).PackedRows (EltTy.packing .bf16))
    (iB : ∀ a, oB a + S1x64x256.size a ≤ S2x1152x7168.size a) (pB : (Rect.unit (s := S2x1152x7168) oB S1x64x256.size iB).PackedRows (EltTy.packing .bf16))
    (iS : ∀ a, oS a + S1x64x128.size a ≤ S2x1152x128.size a) :
    Prog (TpuEff nD τ sig (Elt F) Λ₀ .tc) PUnit := do
  let v15 : Vec F S64x6912 .bf16 ← Prog.lift (.load arg2 (Rect.unit (s := S64x7168) ![0, 0] S64x6912.size inb_S64x7168_S64x6912_0_0).toLoadRect (View.loadsAt_vmem h_S64x6912))
  let v41 : Vec F S64x6912 .i8 ← Prog.lift (.load arg7 (Rect.unit (s := S64x6912) ![0, 0] S64x6912.size inb_S64x6912_S64x6912_0_0).toLoadRect (View.loadsAt_vmem h_S64x6912))
  Prog.lift (.store arg7 (Rect.unit (s := S64x6912) ![0, 0] S64x6912.size inb_S64x6912_S64x6912_0_0) (k0_pay9 v15) Finset.univ (View.stores_vmem h_S64x6912 (harg7.storeExact_slice rfl _ packedi8_S64x6912_S64x6912_0_0) (fun _ => rfl)) (.inl rfl))
  let v45 : Vec F S1x64x6912 .bf16 ← Prog.lift (.load arg10 (Rect.unit (s := S2x1152x7168) oA S1x64x6912.size iA).toLoadRect (View.loadsAt_vmem h_S1x64x6912))
  Prog.lift (.store arg10 (Rect.unit (s := S2x1152x7168) oA S1x64x6912.size iA) (k0_pay10 v15) Finset.univ (View.stores_vmem h_S1x64x6912 (harg10.storeExact_slice rfl _ pA) (fun _ => rfl)) (.inl rfl))
  let v48 : Vec F S64x256 .bf16 ← Prog.lift (.load arg2 (Rect.unit (s := S64x7168) ![0, 6912] S64x256.size inb_S64x7168_S64x256_0_6912).toLoadRect (View.loadsAt_vmem h_S64x256))
  let v52 : Vec F S1x64x256 .bf16 ← Prog.lift (.load arg10 (Rect.unit (s := S2x1152x7168) oB S1x64x256.size iB).toLoadRect (View.loadsAt_vmem h_S1x64x256))
  Prog.lift (.store arg10 (Rect.unit (s := S2x1152x7168) oB S1x64x256.size iB) (k0_pay11 v48) Finset.univ (View.stores_vmem h_S1x64x256 (harg10.storeExact_slice rfl _ pB) (fun _ => rfl)) (.inl rfl))
  let v59 : Vec F S1x64x128 .f32 ← Prog.lift (.load arg11 (Rect.unit (s := S2x1152x128) oS S1x64x128.size iS).toLoadRect (View.loadsAt_vmem h_S1x64x128))
  Prog.lift (.store arg11 (Rect.unit (s := S2x1152x128) oS S1x64x128.size iS) (k0_pay1 (k0_pay12 v15)) Finset.univ (View.stores_vmem_bits_univ h_S1x64x128 rfl) (.inl rfl))
  let v66 : Vec F S1x64x128 .f32 ← Prog.lift (.load arg12 (Rect.unit (s := S2x1152x128) oS S1x64x128.size iS).toLoadRect (View.loadsAt_vmem h_S1x64x128))
  Prog.lift (.store arg12 (Rect.unit (s := S2x1152x128) oS S1x64x128.size iS) (k0_pay2 (k0_pay6 v15)) Finset.univ (View.stores_vmem_bits_univ h_S1x64x128 rfl) (.inl rfl))
  pure ⟨⟩

/-- MULTIPLY: the block of the result in `arg6` from the packed weights `arg3`, their scales `arg4`, the side weights
    `arg5` and the scratch's other slot. -/
def mulProg (i : grid0.Coords) (arg3 : Memref sig .tc .vmem S3456x256 .i8) (arg4 : Memref sig .tc .vmem S1x256 .f32) (arg5 : Memref sig .tc .vmem S256x256 .bf16)
    (arg6 : Memref sig .tc .vmem S1152x256 .bf16) (harg6 : arg6.IsWhole) (arg10 : Memref sig .tc .vmem S2x1152x7168 .bf16)
    (arg11 : Memref sig .tc .vmem S2x1152x128 .f32) (arg12 : Memref sig .tc .vmem S2x1152x128 .f32) (k0_h2 : k0_cond2 i = 1#1) :
    Prog (TpuEff nD τ sig (Elt F) Λ₀ .tc) PUnit := do
  let v69 : Vec F S3456x256 .i8 ← Prog.lift (.load arg3 (Rect.unit (s := S3456x256) ![0, 0] S3456x256.size inb_S3456x256_S3456x256_0_0).toLoadRect (View.loadsAt_vmem h_S3456x256))
  let v96 : Vec F S1x1152x6912 .bf16 ← Prog.lift (.load arg10 (Rect.unit (s := S2x1152x7168) (k0_off7 i) S1x1152x6912.size (k0_off7_inb i k0_h2)).toLoadRect (View.loadsAt_vmem h_S1x1152x6912))
  let v100 : Vec F S1x1152x256 .bf16 ← Prog.lift (.load arg10 (Rect.unit (s := S2x1152x7168) (k0_off8 i) S1x1152x256.size (k0_off8_inb i k0_h2)).toLoadRect (View.loadsAt_vmem h_S1x1152x256))
  let v102 : Vec F S256x256 .bf16 ← Prog.lift (.load arg5 (Rect.unit (s := S256x256) ![0, 0] S256x256.size inb_S256x256_S256x256_0_0).toLoadRect (View.loadsAt_vmem h_S256x256))
  let v104 : Vec F S1x256 .f32 ← Prog.lift (.load arg4 (Rect.unit (s := S1x256) ![0, 0] S1x256.size inb_S1x256_S1x256_0_0).toLoadRect (View.loadsAt_vmem h_S1x256))
  let v108 : Vec F S1x1152x128 .f32 ← Prog.lift (.load arg11 (Rect.unit (s := S2x1152x128) (k0_off9 i) S1x1152x128.size (k0_off9_inb i k0_h2)).toLoadRect (View.loadsAt_vmem h_S1x1152x128))
  let v116 : Vec F S1x1152x128 .f32 ← Prog.lift (.load arg12 (Rect.unit (s := S2x1152x128) (k0_off9 i) S1x1152x128.size (k0_off9_inb i k0_h2)).toLoadRect (View.loadsAt_vmem h_S1x1152x128))
  let v125 : Vec F S1152x128 .bf16 ← Prog.lift (.load arg6 (Rect.unit (s := S1152x256) ![0, 0] S1152x128.size inb_S1152x256_S1152x128_0_0).toLoadRect (View.loadsAt_vmem h_S1152x128))
  Prog.lift (.store arg6 (Rect.unit (s := S1152x256) ![0, 0] S1152x128.size inb_S1152x256_S1152x128_0_0) (k0_pay29 (k0_pay24 v69) (k0_pay25 v69 v96) v100 v102 v104 v108 v116) Finset.univ (View.stores_vmem h_S1152x128 (harg6.storeExact_slice rfl _ packedbf16_S1152x256_S1152x128_0_0) (fun _ => rfl)) (.inl rfl))
  let v127 : Vec F S1x1152x128 .f32 ← Prog.lift (.load arg11 (Rect.unit (s := S2x1152x128) (k0_off9 i) S1x1152x128.size (k0_off9_inb i k0_h2)).toLoadRect (View.loadsAt_vmem h_S1x1152x128))
  let v135 : Vec F S1x1152x128 .f32 ← Prog.lift (.load arg12 (Rect.unit (s := S2x1152x128) (k0_off9 i) S1x1152x128.size (k0_off9_inb i k0_h2)).toLoadRect (View.loadsAt_vmem h_S1x1152x128))
  let v144 : Vec F S1152x128 .bf16 ← Prog.lift (.load arg6 (Rect.unit (s := S1152x256) ![0, 128] S1152x128.size inb_S1152x256_S1152x128_0_128).toLoadRect (View.loadsAt_vmem h_S1152x128))
  Prog.lift (.store arg6 (Rect.unit (s := S1152x256) ![0, 128] S1152x128.size inb_S1152x256_S1152x128_0_128) (k0_pay3 (k0_pay26 v100 v102) (k0_pay30 (k0_pay24 v69) (k0_pay25 v69 v96) v104 v127 v135)) Finset.univ (View.stores_vmem h_S1152x128 (harg6.storeExact_slice rfl _ packedbf16_S1152x256_S1152x128_0_128) (fun _ => rfl)) (.inl rfl))
  pure ⟨⟩

/-- EMIT: the scales (`arg8`) and the minima (`arg9`) of the scratch's slot, one 128-row tile at a time. -/
def emitProg (i : grid0.Coords) (arg8 : Memref sig .tc .vmem S1x1x1152 .f32) (arg9 : Memref sig .tc .vmem S1x1x1152 .f32)
    (arg11 : Memref sig .tc .vmem S2x1152x128 .f32) (arg12 : Memref sig .tc .vmem S2x1152x128 .f32) (k0_h3 : k0_cond3 i = 1#1) :
    Prog (TpuEff nD τ sig (Elt F) Λ₀ .tc) PUnit := do
  let v16 : Vec F S1x128x128 .f32 ← Prog.lift (.load arg11 (Rect.unit (s := S2x1152x128) (k0_off10 i) S1x128x128.size (k0_off10_inb i k0_h3)).toLoadRect (View.loadsAt_vmem h_S1x128x128))
  let v20 : Vec F S1x1x128 .f32 ← Prog.lift (.load arg8 (Rect.unit (s := S1x1x1152) ![0, 0, 0] S1x1x128.size inb_S1x1x1152_S1x1x128_0_0_0).toLoadRect (View.loadsAt_vmem h_S1x1x128))
  Prog.lift (.store arg8 (Rect.unit (s := S1x1x1152) ![0, 0, 0] S1x1x128.size inb_S1x1x1152_S1x1x128_0_0_0) (k0_pay31 v16) Finset.univ (View.stores_vmem_bits_univ h_S1x1x128 rfl) (.inl rfl))
  let v24 : Vec F S1x128x128 .f32 ← Prog.lift (.load arg12 (Rect.unit (s := S2x1152x128) (k0_off10 i) S1x128x128.size (k0_off10_inb i k0_h3)).toLoadRect (View.loadsAt_vmem h_S1x128x128))
  let v28 : Vec F S1x1x128 .f32 ← Prog.lift (.load arg9 (Rect.unit (s := S1x1x1152) ![0, 0, 0] S1x1x128.size inb_S1x1x1152_S1x1x128_0_0_0).toLoadRect (View.loadsAt_vmem h_S1x1x128))
  Prog.lift (.store arg9 (Rect.unit (s := S1x1x1152) ![0, 0, 0] S1x1x128.size inb_S1x1x1152_S1x1x128_0_0_0) (k0_pay32 v24) Finset.univ (View.stores_vmem_bits_univ h_S1x1x128 rfl) (.inl rfl))
  let v32 : Vec F S1x128x128 .f32 ← Prog.lift (.load arg11 (Rect.unit (s := S2x1152x128) (k0_off11 i) S1x128x128.size (k0_off11_inb i k0_h3)).toLoadRect (View.loadsAt_vmem h_S1x128x128))
  let v36 : Vec F S1x1x128 .f32 ← Prog.lift (.load arg8 (Rect.unit (s := S1x1x1152) ![0, 0, 128] S1x1x128.size inb_S1x1x1152_S1x1x128_0_0_128).toLoadRect (View.loadsAt_vmem h_S1x1x128))
  Prog.lift (.store arg8 (Rect.unit (s := S1x1x1152) ![0, 0, 128] S1x1x128.size inb_S1x1x1152_S1x1x128_0_0_128) (k0_pay33 v32) Finset.univ (View.stores_vmem_bits_univ h_S1x1x128 rfl) (.inl rfl))
  let v40 : Vec F S1x128x128 .f32 ← Prog.lift (.load arg12 (Rect.unit (s := S2x1152x128) (k0_off11 i) S1x128x128.size (k0_off11_inb i k0_h3)).toLoadRect (View.loadsAt_vmem h_S1x128x128))
  let v44 : Vec F S1x1x128 .f32 ← Prog.lift (.load arg9 (Rect.unit (s := S1x1x1152) ![0, 0, 128] S1x1x128.size inb_S1x1x1152_S1x1x128_0_0_128).toLoadRect (View.loadsAt_vmem h_S1x1x128))
  Prog.lift (.store arg9 (Rect.unit (s := S1x1x1152) ![0, 0, 128] S1x1x128.size inb_S1x1x1152_S1x1x128_0_0_128) (k0_pay34 v40) Finset.univ (View.stores_vmem_bits_univ h_S1x1x128 rfl) (.inl rfl))
  let v48 : Vec F S1x128x128 .f32 ← Prog.lift (.load arg11 (Rect.unit (s := S2x1152x128) (k0_off12 i) S1x128x128.size (k0_off12_inb i k0_h3)).toLoadRect (View.loadsAt_vmem h_S1x128x128))
  let v52 : Vec F S1x1x128 .f32 ← Prog.lift (.load arg8 (Rect.unit (s := S1x1x1152) ![0, 0, 256] S1x1x128.size inb_S1x1x1152_S1x1x128_0_0_256).toLoadRect (View.loadsAt_vmem h_S1x1x128))
  Prog.lift (.store arg8 (Rect.unit (s := S1x1x1152) ![0, 0, 256] S1x1x128.size inb_S1x1x1152_S1x1x128_0_0_256) (k0_pay35 v48) Finset.univ (View.stores_vmem_bits_univ h_S1x1x128 rfl) (.inl rfl))
  let v56 : Vec F S1x128x128 .f32 ← Prog.lift (.load arg12 (Rect.unit (s := S2x1152x128) (k0_off12 i) S1x128x128.size (k0_off12_inb i k0_h3)).toLoadRect (View.loadsAt_vmem h_S1x128x128))
  let v60 : Vec F S1x1x128 .f32 ← Prog.lift (.load arg9 (Rect.unit (s := S1x1x1152) ![0, 0, 256] S1x1x128.size inb_S1x1x1152_S1x1x128_0_0_256).toLoadRect (View.loadsAt_vmem h_S1x1x128))
  Prog.lift (.store arg9 (Rect.unit (s := S1x1x1152) ![0, 0, 256] S1x1x128.size inb_S1x1x1152_S1x1x128_0_0_256) (k0_pay36 v56) Finset.univ (View.stores_vmem_bits_univ h_S1x1x128 rfl) (.inl rfl))
  let v64 : Vec F S1x128x128 .f32 ← Prog.lift (.load arg11 (Rect.unit (s := S2x1152x128) (k0_off13 i) S1x128x128.size (k0_off13_inb i k0_h3)).toLoadRect (View.loadsAt_vmem h_S1x128x128))
  let v68 : Vec F S1x1x128 .f32 ← Prog.lift (.load arg8 (Rect.unit (s := S1x1x1152) ![0, 0, 384] S1x1x128.size inb_S1x1x1152_S1x1x128_0_0_384).toLoadRect (View.loadsAt_vmem h_S1x1x128))
  Prog.lift (.store arg8 (Rect.unit (s := S1x1x1152) ![0, 0, 384] S1x1x128.size inb_S1x1x1152_S1x1x128_0_0_384) (k0_pay37 v64) Finset.univ (View.stores_vmem_bits_univ h_S1x1x128 rfl) (.inl rfl))
  let v72 : Vec F S1x128x128 .f32 ← Prog.lift (.load arg12 (Rect.unit (s := S2x1152x128) (k0_off13 i) S1x128x128.size (k0_off13_inb i k0_h3)).toLoadRect (View.loadsAt_vmem h_S1x128x128))
  let v76 : Vec F S1x1x128 .f32 ← Prog.lift (.load arg9 (Rect.unit (s := S1x1x1152) ![0, 0, 384] S1x1x128.size inb_S1x1x1152_S1x1x128_0_0_384).toLoadRect (View.loadsAt_vmem h_S1x1x128))
  Prog.lift (.store arg9 (Rect.unit (s := S1x1x1152) ![0, 0, 384] S1x1x128.size inb_S1x1x1152_S1x1x128_0_0_384) (k0_pay38 v72) Finset.univ (View.stores_vmem_bits_univ h_S1x1x128 rfl) (.inl rfl))
  let v80 : Vec F S1x128x128 .f32 ← Prog.lift (.load arg11 (Rect.unit (s := S2x1152x128) (k0_off14 i) S1x128x128.size (k0_off14_inb i k0_h3)).toLoadRect (View.loadsAt_vmem h_S1x128x128))
  let v84 : Vec F S1x1x128 .f32 ← Prog.lift (.load arg8 (Rect.unit (s := S1x1x1152) ![0, 0, 512] S1x1x128.size inb_S1x1x1152_S1x1x128_0_0_512).toLoadRect (View.loadsAt_vmem h_S1x1x128))
  Prog.lift (.store arg8 (Rect.unit (s := S1x1x1152) ![0, 0, 512] S1x1x128.size inb_S1x1x1152_S1x1x128_0_0_512) (k0_pay40 (k0_pay39 v80)) Finset.univ (View.stores_vmem_bits_univ h_S1x1x128 rfl) (.inl rfl))
  let v88 : Vec F S1x128x128 .f32 ← Prog.lift (.load arg12 (Rect.unit (s := S2x1152x128) (k0_off14 i) S1x128x128.size (k0_off14_inb i k0_h3)).toLoadRect (View.loadsAt_vmem h_S1x128x128))
  let v92 : Vec F S1x1x128 .f32 ← Prog.lift (.load arg9 (Rect.unit (s := S1x1x1152) ![0, 0, 512] S1x1x128.size inb_S1x1x1152_S1x1x128_0_0_512).toLoadRect (View.loadsAt_vmem h_S1x1x128))
  Prog.lift (.store arg9 (Rect.unit (s := S1x1x1152) ![0, 0, 512] S1x1x128.size inb_S1x1x1152_S1x1x128_0_0_512) (k0_pay41 v88) Finset.univ (View.stores_vmem_bits_univ h_S1x1x128 rfl) (.inl rfl))
  let v96 : Vec F S1x128x128 .f32 ← Prog.lift (.load arg11 (Rect.unit (s := S2x1152x128) (k0_off15 i) S1x128x128.size (k0_off15_inb i k0_h3)).toLoadRect (View.loadsAt_vmem h_S1x128x128))
  let v100 : Vec F S1x1x128 .f32 ← Prog.lift (.load arg8 (Rect.unit (s := S1x1x1152) ![0, 0, 640] S1x1x128.size inb_S1x1x1152_S1x1x128_0_0_640).toLoadRect (View.loadsAt_vmem h_S1x1x128))
  Prog.lift (.store arg8 (Rect.unit (s := S1x1x1152) ![0, 0, 640] S1x1x128.size inb_S1x1x1152_S1x1x128_0_0_640) (k0_pay42 v96) Finset.univ (View.stores_vmem_bits_univ h_S1x1x128 rfl) (.inl rfl))
  let v104 : Vec F S1x128x128 .f32 ← Prog.lift (.load arg12 (Rect.unit (s := S2x1152x128) (k0_off15 i) S1x128x128.size (k0_off15_inb i k0_h3)).toLoadRect (View.loadsAt_vmem h_S1x128x128))
  let v108 : Vec F S1x1x128 .f32 ← Prog.lift (.load arg9 (Rect.unit (s := S1x1x1152) ![0, 0, 640] S1x1x128.size inb_S1x1x1152_S1x1x128_0_0_640).toLoadRect (View.loadsAt_vmem h_S1x1x128))
  Prog.lift (.store arg9 (Rect.unit (s := S1x1x1152) ![0, 0, 640] S1x1x128.size inb_S1x1x1152_S1x1x128_0_0_640) (k0_pay43 v104) Finset.univ (View.stores_vmem_bits_univ h_S1x1x128 rfl) (.inl rfl))
  let v112 : Vec F S1x128x128 .f32 ← Prog.lift (.load arg11 (Rect.unit (s := S2x1152x128) (k0_off16 i) S1x128x128.size (k0_off16_inb i k0_h3)).toLoadRect (View.loadsAt_vmem h_S1x128x128))
  let v116 : Vec F S1x1x128 .f32 ← Prog.lift (.load arg8 (Rect.unit (s := S1x1x1152) ![0, 0, 768] S1x1x128.size inb_S1x1x1152_S1x1x128_0_0_768).toLoadRect (View.loadsAt_vmem h_S1x1x128))
  Prog.lift (.store arg8 (Rect.unit (s := S1x1x1152) ![0, 0, 768] S1x1x128.size inb_S1x1x1152_S1x1x128_0_0_768) (k0_pay45 (k0_pay44 v112)) Finset.univ (View.stores_vmem_bits_univ h_S1x1x128 rfl) (.inl rfl))
  let v120 : Vec F S1x128x128 .f32 ← Prog.lift (.load arg12 (Rect.unit (s := S2x1152x128) (k0_off16 i) S1x128x128.size (k0_off16_inb i k0_h3)).toLoadRect (View.loadsAt_vmem h_S1x128x128))
  let v124 : Vec F S1x1x128 .f32 ← Prog.lift (.load arg9 (Rect.unit (s := S1x1x1152) ![0, 0, 768] S1x1x128.size inb_S1x1x1152_S1x1x128_0_0_768).toLoadRect (View.loadsAt_vmem h_S1x1x128))
  Prog.lift (.store arg9 (Rect.unit (s := S1x1x1152) ![0, 0, 768] S1x1x128.size inb_S1x1x1152_S1x1x128_0_0_768) (k0_pay46 v120) Finset.univ (View.stores_vmem_bits_univ h_S1x1x128 rfl) (.inl rfl))
  let v128 : Vec F S1x128x128 .f32 ← Prog.lift (.load arg11 (Rect.unit (s := S2x1152x128) (k0_off17 i) S1x128x128.size (k0_off17_inb i k0_h3)).toLoadRect (View.loadsAt_vmem h_S1x128x128))
  let v132 : Vec F S1x1x128 .f32 ← Prog.lift (.load arg8 (Rect.unit (s := S1x1x1152) ![0, 0, 896] S1x1x128.size inb_S1x1x1152_S1x1x128_0_0_896).toLoadRect (View.loadsAt_vmem h_S1x1x128))
  Prog.lift (.store arg8 (Rect.unit (s := S1x1x1152) ![0, 0, 896] S1x1x128.size inb_S1x1x1152_S1x1x128_0_0_896) (k0_pay47 v128) Finset.univ (View.stores_vmem_bits_univ h_S1x1x128 rfl) (.inl rfl))
  let v136 : Vec F S1x128x128 .f32 ← Prog.lift (.load arg12 (Rect.unit (s := S2x1152x128) (k0_off17 i) S1x128x128.size (k0_off17_inb i k0_h3)).toLoadRect (View.loadsAt_vmem h_S1x128x128))
  let v140 : Vec F S1x1x128 .f32 ← Prog.lift (.load arg9 (Rect.unit (s := S1x1x1152) ![0, 0, 896] S1x1x128.size inb_S1x1x1152_S1x1x128_0_0_896).toLoadRect (View.loadsAt_vmem h_S1x1x128))
  Prog.lift (.store arg9 (Rect.unit (s := S1x1x1152) ![0, 0, 896] S1x1x128.size inb_S1x1x1152_S1x1x128_0_0_896) (k0_pay48 v136) Finset.univ (View.stores_vmem_bits_univ h_S1x1x128 rfl) (.inl rfl))
  let v144 : Vec F S1x128x128 .f32 ← Prog.lift (.load arg11 (Rect.unit (s := S2x1152x128) (k0_off18 i) S1x128x128.size (k0_off18_inb i k0_h3)).toLoadRect (View.loadsAt_vmem h_S1x128x128))
  let v148 : Vec F S1x1x128 .f32 ← Prog.lift (.load arg8 (Rect.unit (s := S1x1x1152) ![0, 0, 1024] S1x1x128.size inb_S1x1x1152_S1x1x128_0_0_1024).toLoadRect (View.loadsAt_vmem h_S1x1x128))
  Prog.lift (.store arg8 (Rect.unit (s := S1x1x1152) ![0, 0, 1024] S1x1x128.size inb_S1x1x1152_S1x1x128_0_0_1024) (k0_pay49 v144) Finset.univ (View.stores_vmem_bits_univ h_S1x1x128 rfl) (.inl rfl))
  let v152 : Vec F S1x128x128 .f32 ← Prog.lift (.load arg12 (Rect.unit (s := S2x1152x128) (k0_off18 i) S1x128x128.size (k0_off18_inb i k0_h3)).toLoadRect (View.loadsAt_vmem h_S1x128x128))
  let v156 : Vec F S1x1x128 .f32 ← Prog.lift (.load arg9 (Rect.unit (s := S1x1x1152) ![0, 0, 1024] S1x1x128.size inb_S1x1x1152_S1x1x128_0_0_1024).toLoadRect (View.loadsAt_vmem h_S1x1x128))
  Prog.lift (.store arg9 (Rect.unit (s := S1x1x1152) ![0, 0, 1024] S1x1x128.size inb_S1x1x1152_S1x1x128_0_0_1024) (k0_pay4 v152) Finset.univ (View.stores_vmem_bits_univ h_S1x1x128 rfl) (.inl rfl))
  pure ⟨⟩

/-- The body's first half: QUANTISE, at the first block row alone, and after it followed by MULTIPLY. -/
def headProg (i : grid0.Coords) (arg2 : Memref sig .tc .vmem S64x7168 .bf16) (arg3 : Memref sig .tc .vmem S3456x256 .i8) (arg4 : Memref sig .tc .vmem S1x256 .f32) (arg5 : Memref sig .tc .vmem S256x256 .bf16)
    (arg6 : Memref sig .tc .vmem S1152x256 .bf16) (harg6 : arg6.IsWhole) (arg7 : Memref sig .tc .vmem S64x6912 .i8) (harg7 : arg7.IsWhole) (arg10 : Memref sig .tc .vmem S2x1152x7168 .bf16) (harg10 : arg10.IsWhole)
    (arg11 : Memref sig .tc .vmem S2x1152x128 .f32) (arg12 : Memref sig .tc .vmem S2x1152x128 .f32) : Prog (TpuEff nD τ sig (Elt F) Λ₀ .tc) PUnit :=
  (if k0_h1 : k0_cond1 i = 1#1 then
      quantProg arg2 arg7 harg7 arg10 harg10 arg11 arg12 (k0_off1 i) (k0_off2 i) (k0_off3 i) (k0_off1_inb i k0_h1) (k0_off1_packedbf16 i k0_h1) (k0_off2_inb i k0_h1) (k0_off2_packedbf16 i k0_h1) (k0_off3_inb i k0_h1)
    else pure ⟨⟩) >>= fun _ =>
  if k0_h2 : k0_cond2 i = 1#1 then
    quantProg arg2 arg7 harg7 arg10 harg10 arg11 arg12 (k0_off4 i) (k0_off5 i) (k0_off6 i) (k0_off4_inb i k0_h2) (k0_off4_packedbf16 i k0_h2) (k0_off5_inb i k0_h2) (k0_off5_packedbf16 i k0_h2) (k0_off6_inb i k0_h2) >>= fun _ =>
    mulProg i arg3 arg4 arg5 arg6 harg6 arg10 arg11 arg12 k0_h2
  else pure ⟨⟩

/-- Its second half: EMIT at a block row's last column. -/
def tailProg (i : grid0.Coords) (arg8 : Memref sig .tc .vmem S1x1x1152 .f32) (arg9 : Memref sig .tc .vmem S1x1x1152 .f32)
    (arg11 : Memref sig .tc .vmem S2x1152x128 .f32) (arg12 : Memref sig .tc .vmem S2x1152x128 .f32) : Prog (TpuEff nD τ sig (Elt F) Λ₀ .tc) PUnit :=
  (if k0_h3 : k0_cond3 i = 1#1 then emitProg i arg8 arg9 arg11 arg12 k0_h3 else pure ⟨⟩) >>= fun _ => pure ⟨⟩

set_option maxRecDepth 65536 in
/-- The printed body is QUANTISE at its first block row, QUANTISE then MULTIPLY after it, and EMIT at a block row's last column. -/
theorem body_eq (i : grid0.Coords) (arg2 : Memref sig .tc .vmem S64x7168 .bf16) (harg2 : arg2.IsWhole) (arg3 : Memref sig .tc .vmem S3456x256 .i8) (harg3 : arg3.IsWhole) (arg4 : Memref sig .tc .vmem S1x256 .f32) (harg4 : arg4.IsWhole) (arg5 : Memref sig .tc .vmem S256x256 .bf16) (harg5 : arg5.IsWhole) (arg6 : Memref sig .tc .vmem S1152x256 .bf16) (harg6 : arg6.IsWhole) (arg7 : Memref sig .tc .vmem S64x6912 .i8) (harg7 : arg7.IsWhole) (arg8 : Memref sig .tc .vmem S1x1x1152 .f32) (harg8 : arg8.IsWhole) (arg9 : Memref sig .tc .vmem S1x1x1152 .f32) (harg9 : arg9.IsWhole) (arg10 : Memref sig .tc .vmem S2x1152x7168 .bf16) (harg10 : arg10.IsWhole) (arg11 : Memref sig .tc .vmem S2x1152x128 .f32) (harg11 : arg11.IsWhole) (arg12 : Memref sig .tc .vmem S2x1152x128 .f32) (harg12 : arg12.IsWhole) :
    cc0_quik_linear (F := F) i arg2 harg2 arg3 harg3 arg4 harg4 arg5 harg5 arg6 harg6 arg7 harg7 arg8 harg8 arg9 harg9 arg10 harg10 arg11 harg11 arg12 harg12 = (do
      if k0_h1 : k0_cond1 i = 1#1 then
        quantProg arg2 arg7 harg7 arg10 harg10 arg11 arg12 (k0_off1 i) (k0_off2 i) (k0_off3 i) (k0_off1_inb i k0_h1) (k0_off1_packedbf16 i k0_h1) (k0_off2_inb i k0_h1) (k0_off2_packedbf16 i k0_h1) (k0_off3_inb i k0_h1)
      else pure ⟨⟩
      if k0_h2 : k0_cond2 i = 1#1 then (do
        quantProg arg2 arg7 harg7 arg10 harg10 arg11 arg12 (k0_off4 i) (k0_off5 i) (k0_off6 i) (k0_off4_inb i k0_h2) (k0_off4_packedbf16 i k0_h2) (k0_off5_inb i k0_h2) (k0_off5_packedbf16 i k0_h2) (k0_off6_inb i k0_h2)
        mulProg i arg3 arg4 arg5 arg6 harg6 arg10 arg11 arg12 k0_h2)
      else pure ⟨⟩
      if k0_h3 : k0_cond3 i = 1#1 then emitProg i arg8 arg9 arg11 arg12 k0_h3
      else pure ⟨⟩
      pure ⟨⟩) := rfl

/-- The printed body is its two halves in sequence. -/
theorem body_halves (i : grid0.Coords) (arg2 : Memref sig .tc .vmem S64x7168 .bf16) (harg2 : arg2.IsWhole) (arg3 : Memref sig .tc .vmem S3456x256 .i8) (harg3 : arg3.IsWhole) (arg4 : Memref sig .tc .vmem S1x256 .f32) (harg4 : arg4.IsWhole) (arg5 : Memref sig .tc .vmem S256x256 .bf16) (harg5 : arg5.IsWhole) (arg6 : Memref sig .tc .vmem S1152x256 .bf16) (harg6 : arg6.IsWhole) (arg7 : Memref sig .tc .vmem S64x6912 .i8) (harg7 : arg7.IsWhole) (arg8 : Memref sig .tc .vmem S1x1x1152 .f32) (harg8 : arg8.IsWhole) (arg9 : Memref sig .tc .vmem S1x1x1152 .f32) (harg9 : arg9.IsWhole) (arg10 : Memref sig .tc .vmem S2x1152x7168 .bf16) (harg10 : arg10.IsWhole) (arg11 : Memref sig .tc .vmem S2x1152x128 .f32) (harg11 : arg11.IsWhole) (arg12 : Memref sig .tc .vmem S2x1152x128 .f32) (harg12 : arg12.IsWhole) :
    cc0_quik_linear (F := F) i arg2 harg2 arg3 harg3 arg4 harg4 arg5 harg5 arg6 harg6 arg7 harg7 arg8 harg8 arg9 harg9 arg10 harg10 arg11 harg11 arg12 harg12
      = headProg i arg2 arg3 arg4 arg5 arg6 harg6 arg7 harg7 arg10 harg10 arg11 arg12 >>= fun _ => tailProg i arg8 arg9 arg11 arg12 := by
  rw [body_eq]
  unfold headProg tailProg
  by_cases h1 : k0_cond1 i = 1#1 <;> by_cases h2 : k0_cond2 i = 1#1 <;> by_cases h3 : k0_cond3 i = 1#1 <;>
    simp only [dif_pos, dif_neg, h1, h2, h3, bind_assoc, pure_bind, not_false_eq_true, dite_true, dite_false]

end Cert.KernelIdeal.Hand

end
-- ==== Proof.Kern.Quant.lean ====
/- QUANTISE's effect: what the sixty-four rows' codes, side columns, scales and minima leave in the code block and in
   the three carried scratch buffers, read at an element. -/
module

public import proofs.«01_k».proof.Proof.Kern.Split
public import proofs.«01_k».proof.Proof.Gen.KernelIdeal.Frame
public import Idealize.ShloMosaic.Lib.WritesUnit
public import Idealize.ShloMosaic.Lib.WholeRead
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The 6912 quantised columns of sixty-four rows. -/
abbrev xBase (x : Vec F S64x7168 .bf16) : Vec F S64x6912 .bf16 :=
  fun j => x ((Rect.unit (s := S64x7168) ![0, 0] S64x6912.size inb_S64x7168_S64x6912_0_0).toLoadRect.idx j)

/-- The 256 side columns of sixty-four rows. -/
abbrev xSide (x : Vec F S64x7168 .bf16) : Vec F S64x256 .bf16 :=
  fun j => x ((Rect.unit (s := S64x7168) ![0, 6912] S64x256.size inb_S64x7168_S64x256_0_6912).toLoadRect.idx j)

/-- What QUANTISE makes of the code block and the scratch contents `A`, `S`, `Z`, on rows `64 n …` of slot `s`. -/
structure QuantPost (s n : ℕ) (x : Vec F S64x7168 .bf16) (A : Vec F S2x1152x7168 .bf16) (S Z : Vec F S2x1152x128 .f32)
    (q : Vec F S64x6912 .i8) (A' : Vec F S2x1152x7168 .bf16) (S' Z' : Vec F S2x1152x128 .f32) : Prop where
  q : q = k0_pay9 (xBase x)
  aIn : ∀ (y : S2x1152x7168.Idx) (j : S1x64x6912.Idx), (∀ a, (y a).val = (![s, 64 * n, 0] : Fin 3 → ℕ) a + (j a).val) → A' y = k0_pay10 (xBase x) j
  aSide : ∀ (y : S2x1152x7168.Idx) (j : S1x64x256.Idx), (∀ a, (y a).val = (![s, 64 * n, 6912] : Fin 3 → ℕ) a + (j a).val) → A' y = k0_pay11 (xSide x) j
  aOut : ∀ y : S2x1152x7168.Idx, ((y 0).val ≠ s ∨ (y 1).val < 64 * n ∨ 64 * n + 64 ≤ (y 1).val) → A' y = A y
  sIn : ∀ (y : S2x1152x128.Idx) (j : S1x64x128.Idx), (∀ a, (y a).val = (![s, 64 * n, 0] : Fin 3 → ℕ) a + (j a).val) → S' y = k0_pay1 (k0_pay12 (xBase x)) j
  sOut : ∀ y : S2x1152x128.Idx, ((y 0).val ≠ s ∨ (y 1).val < 64 * n ∨ 64 * n + 64 ≤ (y 1).val) → S' y = S y
  zIn : ∀ (y : S2x1152x128.Idx) (j : S1x64x128.Idx), (∀ a, (y a).val = (![s, 64 * n, 0] : Fin 3 → ℕ) a + (j a).val) → Z' y = k0_pay2 (k0_pay6 (xBase x)) j
  zOut : ∀ y : S2x1152x128.Idx, ((y 0).val ≠ s ∨ (y 1).val < 64 * n ∨ 64 * n + 64 ≤ (y 1).val) → Z' y = Z y

set_option maxHeartbeats 1000000 in
/-- QUANTISE's triple: from any contents of the code block and the scratch to contents related by `QuantPost`. -/
theorem quant_run (c : Dev nD) (arg2 : Memref sig .tc .vmem S64x7168 .bf16) (harg2 : arg2.IsWhole) (arg7 : Memref sig .tc .vmem S64x6912 .i8) (harg7 : arg7.IsWhole)
    (arg10 : Memref sig .tc .vmem S2x1152x7168 .bf16) (harg10 : arg10.IsWhole) (arg11 : Memref sig .tc .vmem S2x1152x128 .f32) (harg11 : arg11.IsWhole)
    (arg12 : Memref sig .tc .vmem S2x1152x128 .f32) (harg12 : arg12.IsWhole) (oA oB oS : Fin 3 → Nat)
    (iA : ∀ a, oA a + S1x64x6912.size a ≤ S2x1152x7168.size a) (pA : (Rect.unit (s := S2x1152x7168) oA S1x64x6912.size iA).PackedRows (EltTy.packing .bf16))
    (iB : ∀ a, oB a + S1x64x256.size a ≤ S2x1152x7168.size a) (pB : (Rect.unit (s := S2x1152x7168) oB S1x64x256.size iB).PackedRows (EltTy.packing .bf16))
    (iS : ∀ a, oS a + S1x64x128.size a ≤ S2x1152x128.size a)
    (s n : ℕ) (eA : oA = ![s, 64 * n, 0]) (eB : oB = ![s, 64 * n, 6912]) (eS : oS = ![s, 64 * n, 0])
    (x : Vec F S64x7168 .bf16) (A : Vec F S2x1152x7168 .bf16) (S Z : Vec F S2x1152x128 .f32) (E : Set ℕ) (K : PUnit → sProp 𝕄) :
    iprop(owns (c : Thread nD τ) arg2 fullShare x ∗ (∃ d, owns (c : Thread nD τ) arg7 fullShare d) ∗ owns (c : Thread nD τ) arg10 fullShare A
        ∗ owns (c : Thread nD τ) arg11 fullShare S ∗ owns (c : Thread nD τ) arg12 fullShare Z
        ∗ (iprop(owns (c : Thread nD τ) arg2 fullShare x ∗ (∃ q A' S' Z', ⌜QuantPost s n x A S Z q A' S' Z'⌝ ∗ owns (c : Thread nD τ) arg7 fullShare q
            ∗ owns (c : Thread nD τ) arg10 fullShare A' ∗ owns (c : Thread nD τ) arg11 fullShare S' ∗ owns (c : Thread nD τ) arg12 fullShare Z')) -∗ K ⟨⟩))
      ⊢ wp frame (wpE (defs₀ (F := F)) Variants.none c none) E (quantProg arg2 arg7 harg7 arg10 harg10 arg11 arg12 oA oB oS iA pA iB pB iS) K := by
  unfold quantProg owns
  iintro ⟨⟨%f2, %hf2, H2⟩, ⟨%d7, %f7, -, H7⟩, ⟨%fA, %hA, HA⟩, ⟨%fS, %hS, HS⟩, ⟨%fZ, %hZ, HZ⟩, Hk⟩
  obtain rfl := harg2.eq_unread hf2
  obtain rfl := harg10.eq_unread hA
  obtain rfl := harg11.eq_unread hS
  obtain rfl := harg12.eq_unread hZ
  sl_exec
  sl_step
  iapply Hk
  isplitl [H2]
  · iexists _; isplitr; · ipureintro; exact harg2.read_unread _
    iexact H2
  iexists _, _, _, _
  isplitr
  swap
  · isplitl [H7]; · iexists _; isplitr; swap; · iexact H7
                    ipureintro; rfl
    isplitl [HA]; · iexists _; isplitr; swap; · iexact HA
                    ipureintro; rfl
    isplitl [HS]; · iexists _; isplitr; swap; · iexact HS
                    ipureintro; rfl
    iexists _; isplitr; swap; · iexact HZ
    ipureintro; rfl
  ipureintro
  have hb : View.readAt (Elt F) arg2.view (Rect.unit (s := S64x7168) ![0, 0] S64x6912.size inb_S64x7168_S64x6912_0_0).toLoadRect (harg2.unread x) = xBase x :=
    funext fun j => harg2.readAt_unread x _ j
  have hs : View.readAt (Elt F) arg2.view (Rect.unit (s := S64x7168) ![0, 6912] S64x256.size inb_S64x7168_S64x256_0_6912).toLoadRect (harg2.unread x) = xSide x :=
    funext fun j => harg2.readAt_unread x _ j
  rw [hb, hs]
  have miss : ∀ (y : Fin 3 → ℕ) (o : ℕ) (sz : Fin 3 → ℕ), sz 0 = 1 → sz 1 = 64 → (y 0 ≠ s ∨ y 1 < 64 * n ∨ 64 * n + 64 ≤ y 1) →
      ∃ a : Fin 3, y a < (![s, 64 * n, o] : Fin 3 → ℕ) a ∨ (![s, 64 * n, o] : Fin 3 → ℕ) a + sz a ≤ y a := by
    intro y o sz h0 h1 h
    rcases h with h | h | h
    · refine ⟨0, ?_⟩
      rw [h0]; show y 0 < s ∨ s + 1 ≤ y 0
      omega
    · exact ⟨1, .inl h⟩
    · exact ⟨1, .inr (by rw [h1]; exact h)⟩
  constructor
  · funext y
    exact View.read_writes_cons_unit_of_mem _ _ _ _ _ y y rfl fun a => by fin_cases a <;> exact (Nat.zero_add _).symm
  · intro y j h
    rw [View.read_writes_cons_unit_of_not_mem _ _ _ _ _ y eB (2 : Fin 3) (.inl ?_)]
    · exact View.read_writes_cons_unit_of_mem _ _ _ _ _ y j eA h
    · have h2 : (y 2).val = 0 + (j 2).val := h 2
      have hj : (j 2).val < 6912 := (j 2).isLt
      show (y 2).val < 6912
      omega
  · intro y j h
    exact View.read_writes_cons_unit_of_mem _ _ _ _ _ y j eB h
  · intro y h
    obtain ⟨a, ha⟩ := miss (fun a => (y a).val) 6912 S1x64x256.size rfl rfl h
    obtain ⟨b, hb⟩ := miss (fun a => (y a).val) 0 S1x64x6912.size rfl rfl h
    rw [View.read_writes_cons_unit_of_not_mem _ _ _ _ _ y eB a ha, View.read_writes_cons_unit_of_not_mem _ _ _ _ _ y eA b hb]
    exact congrFun hA y
  · intro y j h
    exact View.read_writes_cons_unit_of_mem _ _ _ _ _ y j eS h
  · intro y h
    obtain ⟨b, hb⟩ := miss (fun a => (y a).val) 0 S1x64x128.size rfl rfl h
    rw [View.read_writes_cons_unit_of_not_mem _ _ _ _ _ y eS b hb]
    exact congrFun hS y
  · intro y j h
    exact View.read_writes_cons_unit_of_mem _ _ _ _ _ y j eS h
  · intro y h
    obtain ⟨b, hb⟩ := miss (fun a => (y a).val) 0 S1x64x128.size rfl rfl h
    rw [View.read_writes_cons_unit_of_not_mem _ _ _ _ _ y eS b hb]
    exact congrFun hZ y

end Cert.KernelIdeal.Hand

end
-- ==== Proof.Kern.Mul.lean ====
/- MULTIPLY's effect: the block of the result it leaves, from what the scratch's slot and the weight blocks hold. -/
module

public import proofs.«01_k».proof.Proof.Kern.Quant
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The codes slot `s` of the scratch holds. -/
def codes (s : Fin 2) (A : Vec F S2x1152x7168 .bf16) : Vec F S1x1152x6912 .bf16 :=
  fun j => A (ix3 s (j 1) ⟨(j 2).val, lt_of_lt_of_le (j 2).isLt (by decide : 6912 ≤ 7168)⟩)

/-- The side columns slot `s` of the scratch holds. -/
def sides (s : Fin 2) (A : Vec F S2x1152x7168 .bf16) : Vec F S1x1152x256 .bf16 :=
  fun j => A (ix3 s (j 1) ⟨6912 + (j 2).val, Nat.add_lt_add_left (j 2).isLt 6912⟩)

/-- The lanes slot `s` of a scratch of scales or minima holds. -/
def lanes (s : Fin 2) (S : Vec F S2x1152x128 .f32) : Vec F S1x1152x128 .f32 :=
  fun j => S (ix3 s (j 1) (j 2))

/-- The block of the result MULTIPLY leaves, its two lane halves read at an element. -/
structure MulPost (s : Fin 2) (wb : Vec F S3456x256 .i8) (ws : Vec F S1x256 .f32) (wo : Vec F S256x256 .bf16)
    (A : Vec F S2x1152x7168 .bf16) (S Z : Vec F S2x1152x128 .f32) (o : Vec F S1152x256 .bf16) : Prop where
  low : ∀ (y : S1152x256.Idx) (j : S1152x128.Idx), (∀ a, (y a).val = (![0, 0] : Fin 2 → ℕ) a + (j a).val) →
    o y = k0_pay29 (k0_pay24 wb) (k0_pay25 wb (codes s A)) (sides s A) wo ws (lanes s S) (lanes s Z) j
  high : ∀ (y : S1152x256.Idx) (j : S1152x128.Idx), (∀ a, (y a).val = (![0, 128] : Fin 2 → ℕ) a + (j a).val) →
    o y = k0_pay3 (k0_pay26 (sides s A) wo) (k0_pay30 (k0_pay24 wb) (k0_pay25 wb (codes s A)) ws (lanes s S) (lanes s Z)) j

set_option maxHeartbeats 1000000 in
/-- MULTIPLY's triple: everything read is returned as it was, and the block of the result satisfies `MulPost`. -/
theorem mul_run (c : Dev nD) (i : grid0.Coords) (arg3 : Memref sig .tc .vmem S3456x256 .i8) (harg3 : arg3.IsWhole) (arg4 : Memref sig .tc .vmem S1x256 .f32) (harg4 : arg4.IsWhole)
    (arg5 : Memref sig .tc .vmem S256x256 .bf16) (harg5 : arg5.IsWhole) (arg6 : Memref sig .tc .vmem S1152x256 .bf16) (harg6 : arg6.IsWhole)
    (arg10 : Memref sig .tc .vmem S2x1152x7168 .bf16) (harg10 : arg10.IsWhole) (arg11 : Memref sig .tc .vmem S2x1152x128 .f32) (harg11 : arg11.IsWhole)
    (arg12 : Memref sig .tc .vmem S2x1152x128 .f32) (harg12 : arg12.IsWhole) (h2 : k0_cond2 i = 1#1) (s : Fin 2) (hs : s.val = 1 - (i 0).val % 2)
    (wb : Vec F S3456x256 .i8) (ws : Vec F S1x256 .f32) (wo : Vec F S256x256 .bf16)
    (A : Vec F S2x1152x7168 .bf16) (S Z : Vec F S2x1152x128 .f32) (E : Set ℕ) (K : PUnit → sProp 𝕄) :
    iprop(owns (c : Thread nD τ) arg3 fullShare wb ∗ owns (c : Thread nD τ) arg4 fullShare ws ∗ owns (c : Thread nD τ) arg5 fullShare wo
        ∗ (∃ d, owns (c : Thread nD τ) arg6 fullShare d) ∗ owns (c : Thread nD τ) arg10 fullShare A
        ∗ owns (c : Thread nD τ) arg11 fullShare S ∗ owns (c : Thread nD τ) arg12 fullShare Z
        ∗ (iprop(owns (c : Thread nD τ) arg3 fullShare wb ∗ owns (c : Thread nD τ) arg4 fullShare ws ∗ owns (c : Thread nD τ) arg5 fullShare wo
            ∗ (∃ o, ⌜MulPost s wb ws wo A S Z o⌝ ∗ owns (c : Thread nD τ) arg6 fullShare o) ∗ owns (c : Thread nD τ) arg10 fullShare A
            ∗ owns (c : Thread nD τ) arg11 fullShare S ∗ owns (c : Thread nD τ) arg12 fullShare Z) -∗ K ⟨⟩))
      ⊢ wp frame (wpE (defs₀ (F := F)) Variants.none c none) E (mulProg i arg3 arg4 arg5 arg6 harg6 arg10 arg11 arg12 h2) K := by
  unfold mulProg owns
  iintro ⟨⟨%f3, %hf3, H3⟩, ⟨%f4, %hf4, H4⟩, ⟨%f5, %hf5, H5⟩, ⟨%d6, %f6, -, H6⟩, ⟨%fA, %hA, HA⟩, ⟨%fS, %hS, HS⟩, ⟨%fZ, %hZ, HZ⟩, Hk⟩
  obtain rfl := harg3.eq_unread hf3
  obtain rfl := harg4.eq_unread hf4
  obtain rfl := harg5.eq_unread hf5
  obtain rfl := harg10.eq_unread hA
  obtain rfl := harg11.eq_unread hS
  obtain rfl := harg12.eq_unread hZ
  sl_exec (disch := sl_exact h2)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  swap
  · isplitl [HA]; · iexists _; isplitr; · ipureintro; exact harg10.read_unread _
                    iexact HA
    isplitl [HS]; · iexists _; isplitr; · ipureintro; exact harg11.read_unread _
                    iexact HS
    iexists _; isplitr; · ipureintro; exact harg12.read_unread _
    iexact HZ
  iexists _
  isplitr
  swap
  · iexists _; isplitr; swap; · iexact H6
    ipureintro; rfl
  ipureintro
  have e7 : ∀ a, k0_off7 i a = (![s.val, 0, 0] : Fin 3 → ℕ) a := fun a => by rw [k0_off7_eq, hs]
  have e8 : ∀ a, k0_off8 i a = (![s.val, 0, 6912] : Fin 3 → ℕ) a := fun a => by rw [k0_off8_eq, hs]
  have e9 : ∀ a, k0_off9 i a = (![s.val, 0, 0] : Fin 3 → ℕ) a := fun a => by rw [k0_off9_eq, hs]
  have r3 : View.readAt (Elt F) arg3.view (Rect.unit (s := S3456x256) ![0, 0] S3456x256.size inb_S3456x256_S3456x256_0_0).toLoadRect (harg3.unread wb) = wb :=
    funext fun j => (harg3.readAt_unread wb _ j).trans (congrArg wb (funext fun a => Fin.ext (by fin_cases a <;> (show 0 + 1 * _ = _; rw [Nat.zero_add, Nat.one_mul]))))
  have r4 : View.readAt (Elt F) arg4.view (Rect.unit (s := S1x256) ![0, 0] S1x256.size inb_S1x256_S1x256_0_0).toLoadRect (harg4.unread ws) = ws :=
    funext fun j => (harg4.readAt_unread ws _ j).trans (congrArg ws (funext fun a => Fin.ext (by fin_cases a <;> (show 0 + 1 * _ = _; rw [Nat.zero_add, Nat.one_mul]))))
  have r5 : View.readAt (Elt F) arg5.view (Rect.unit (s := S256x256) ![0, 0] S256x256.size inb_S256x256_S256x256_0_0).toLoadRect (harg5.unread wo) = wo :=
    funext fun j => (harg5.readAt_unread wo _ j).trans (congrArg wo (funext fun a => Fin.ext (by fin_cases a <;> (show 0 + 1 * _ = _; rw [Nat.zero_add, Nat.one_mul]))))
  have rA : View.readAt (Elt F) arg10.view (Rect.unit (s := S2x1152x7168) (k0_off7 i) S1x1152x6912.size (k0_off7_inb i h2)).toLoadRect (harg10.unread A) = codes s A :=
    funext fun j => (harg10.readAt_unread A _ j).trans (congrArg A (funext fun a => Fin.ext (by
      show k0_off7 i a + 1 * (j a).val = _
      rw [e7 a, Nat.one_mul]
      fin_cases a
      · show s.val + (j 0).val = s.val
        have : (j 0).val < 1 := (j 0).isLt
        omega
      · exact Nat.zero_add _
      · exact Nat.zero_add _)))
  have rB : View.readAt (Elt F) arg10.view (Rect.unit (s := S2x1152x7168) (k0_off8 i) S1x1152x256.size (k0_off8_inb i h2)).toLoadRect (harg10.unread A) = sides s A :=
    funext fun j => (harg10.readAt_unread A _ j).trans (congrArg A (funext fun a => Fin.ext (by
      show k0_off8 i a + 1 * (j a).val = _
      rw [e8 a, Nat.one_mul]
      fin_cases a
      · show s.val + (j 0).val = s.val
        have : (j 0).val < 1 := (j 0).isLt
        omega
      · exact Nat.zero_add _
      · rfl)))
  have rL : ∀ (X : Vec F S2x1152x128 .f32) (j : S1x1152x128.Idx), X ((Rect.unit (s := S2x1152x128) (k0_off9 i) S1x1152x128.size (k0_off9_inb i h2)).toLoadRect.idx j) = lanes s X j :=
    fun X j => congrArg X (funext fun a => Fin.ext (by
      show k0_off9 i a + 1 * (j a).val = _
      rw [e9 a, Nat.one_mul]
      fin_cases a
      · show s.val + (j 0).val = s.val
        have : (j 0).val < 1 := (j 0).isLt
        omega
      · exact Nat.zero_add _
      · exact Nat.zero_add _))
  have rS : View.readAt (Elt F) arg11.view (Rect.unit (s := S2x1152x128) (k0_off9 i) S1x1152x128.size (k0_off9_inb i h2)).toLoadRect (harg11.unread S) = lanes s S :=
    funext fun j => (harg11.readAt_unread S _ j).trans (rL S j)
  have rZ : View.readAt (Elt F) arg12.view (Rect.unit (s := S2x1152x128) (k0_off9 i) S1x1152x128.size (k0_off9_inb i h2)).toLoadRect (harg12.unread Z) = lanes s Z :=
    funext fun j => (harg12.readAt_unread Z _ j).trans (rL Z j)
  rw [r3, r4, r5, rA, rB, rS, rZ]
  constructor
  · intro y j h
    rw [View.read_writes_cons_unit_of_not_mem _ _ _ _ _ y rfl (1 : Fin 2) (.inl ?_)]
    · exact View.read_writes_cons_unit_of_mem _ _ _ _ _ y j rfl h
    · have h1 : (y 1).val = 0 + (j 1).val := h 1
      have hj : (j 1).val < 128 := (j 1).isLt
      show (y 1).val < 128
      omega
  · intro y j h
    exact View.read_writes_cons_unit_of_mem _ _ _ _ _ y j rfl h

end Cert.KernelIdeal.Hand

end
-- ==== Proof.Kern.Emit.lean ====
/- EMIT's effect: the scales and the minima of a block row, from the first lane of the scratch's slot. -/
module

public import proofs.«01_k».proof.Proof.Kern.Quant
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The 128 rows from row `128 k` of slot `s`. -/
def rows128 (s : Fin 2) (S : Vec F S2x1152x128 .f32) (k : Fin 9) : Vec F S1x128x128 .f32 :=
  fun j => S (ix3 s ⟨128 * k.val + (j 1).val, by
    have h1 : (j 1).val < 128 := (j 1).isLt
    have h2 := k.isLt
    omega⟩ (j 2))

/-- A tile turned and cut to its first row reads the tile's first column. -/
theorem pay31_apply (v : Vec F S1x128x128 .f32) (j : S1x1x128.Idx) : k0_pay31 v j = v (ix3 0 (j 2) 0) := by
  unfold k0_pay31
  simp only [pointwise]
  exact congrArg (fun k : Fin 128 => v (ix3 0 k 0)) (Fin.ext (Nat.zero_add _))

/-- What EMIT leaves in a block of scales or minima: the first lane of every row of the slot. -/
def firstLane (s : Fin 2) (S : Vec F S2x1152x128 .f32) : Vec F S1x1x1152 .f32 :=
  fun y => S (ix3 s (y 2) 0)

/-- The nine tile stores of EMIT leave the first lane of every row. -/
theorem emit_read {m : Memref sig .tc .vmem S1x1x1152 .f32} (f : m.view.ty.Contents (Elt F)) (s : Fin 2) (S : Vec F S2x1152x128 .f32)
    (inb : ∀ (k : Fin 9) a, (![0, 0, 128 * k.val] : Fin 3 → ℕ) a + S1x1x128.size a ≤ S1x1x1152.size a) :
    m.view.read (Elt F) (m.view.writes (Elt F) f (View.tilePieces (Val := Elt F) (e := .f32) S1x1x128.size (fun k : Fin 9 => (![0, 0, 128 * k.val] : Fin 3 → ℕ)) inb
      (fun k => k0_pay31 (rows128 s S k)) 9 le_rfl)) = firstLane s S := by
  funext y
  have hy : (y 2).val < 1152 := (y 2).isLt
  have hk : (y 2).val / 128 < 9 := by omega
  have hl : (y 2).val % 128 < 128 := Nat.mod_lt _ (by decide)
  rw [View.read_tilePieces m.view f S1x1x128.size _ inb _ 9 le_rfl y ⟨(y 2).val / 128, hk⟩ hk (ix3 0 0 ⟨(y 2).val % 128, hl⟩) ?_ (2 : Fin 3) ?_]
  · rw [pay31_apply]
    refine congrArg S (funext fun a => Fin.ext ?_)
    fin_cases a
    · rfl
    · show 128 * ((y 2).val / 128) + (y 2).val % 128 = (y 2).val
      omega
    · rfl
  · intro a
    fin_cases a
    · show (y 0).val = 0 + 0
      have : (y 0).val < 1 := (y 0).isLt
      omega
    · show (y 1).val = 0 + 0
      have : (y 1).val < 1 := (y 1).isLt
      omega
    · show (y 2).val = 128 * ((y 2).val / 128) + (y 2).val % 128
      omega
  · intro i' hi'
    have hne : i'.val ≠ (y 2).val / 128 := fun h => hi' (Fin.ext h)
    show (y 2).val < 128 * i'.val ∨ 128 * i'.val + 128 ≤ (y 2).val
    omega

set_option maxHeartbeats 2000000 in
/-- EMIT's triple: the scratch is returned as it was, and the two blocks hold the first lane of every row. -/
theorem emit_run (c : Dev nD) (i : grid0.Coords) (arg8 : Memref sig .tc .vmem S1x1x1152 .f32) (harg8 : arg8.IsWhole) (arg9 : Memref sig .tc .vmem S1x1x1152 .f32) (harg9 : arg9.IsWhole)
    (arg11 : Memref sig .tc .vmem S2x1152x128 .f32) (harg11 : arg11.IsWhole) (arg12 : Memref sig .tc .vmem S2x1152x128 .f32) (harg12 : arg12.IsWhole)
    (h3 : k0_cond3 i = 1#1) (s : Fin 2) (hs : s.val = (i 0).val % 2)
    (S Z : Vec F S2x1152x128 .f32) (E : Set ℕ) (K : PUnit → sProp 𝕄) :
    iprop((∃ d, owns (c : Thread nD τ) arg8 fullShare d) ∗ (∃ d, owns (c : Thread nD τ) arg9 fullShare d)
        ∗ owns (c : Thread nD τ) arg11 fullShare S ∗ owns (c : Thread nD τ) arg12 fullShare Z
        ∗ (iprop(owns (c : Thread nD τ) arg8 fullShare (firstLane s S) ∗ owns (c : Thread nD τ) arg9 fullShare (firstLane s Z)
            ∗ owns (c : Thread nD τ) arg11 fullShare S ∗ owns (c : Thread nD τ) arg12 fullShare Z) -∗ K ⟨⟩))
      ⊢ wp frame (wpE (defs₀ (F := F)) Variants.none c none) E (emitProg i arg8 arg9 arg11 arg12 h3) K := by
  unfold emitProg owns
  iintro ⟨⟨%d8, %f8, -, H8⟩, ⟨%d9, %f9, -, H9⟩, ⟨%fS, %hS, HS⟩, ⟨%fZ, %hZ, HZ⟩, Hk⟩
  obtain rfl := harg11.eq_unread hS
  obtain rfl := harg12.eq_unread hZ
  have hr : ∀ (off : Fin 3 → ℕ) (inb : ∀ a, off a + S1x128x128.size a ≤ S2x1152x128.size a) (k : Fin 9), off = ![(i 0).val % 2, 128 * k.val, 0] → ∀ (X : Vec F S2x1152x128 .f32) (m : Memref sig .tc .vmem S2x1152x128 .f32) (hm : m.IsWhole),
      View.readAt (Elt F) m.view (Rect.unit (s := S2x1152x128) off S1x128x128.size inb).toLoadRect (hm.unread X) = rows128 s X k := by
    intro off inb k e X m hm
    subst e
    refine funext fun j => (hm.readAt_unread X _ j).trans (congrArg X (funext fun a => Fin.ext ?_))
    fin_cases a
    · show (i 0).val % 2 + 1 * (j 0).val = s.val
      have : (j 0).val < 1 := (j 0).isLt
      omega
    · show 128 * k.val + 1 * (j 1).val = 128 * k.val + (j 1).val
      rw [Nat.one_mul]
    · show 0 + 1 * (j 2).val = (j 2).val
      rw [Nat.zero_add, Nat.one_mul]
  have inb : ∀ (k : Fin 9) a, (![0, 0, 128 * k.val] : Fin 3 → ℕ) a + S1x1x128.size a ≤ S1x1x1152.size a := by decide
  sl_exec (disch := sl_exact h3)
  sl_step
  iapply Hk
  isplitl [H8]
  · iexists _; isplitr; swap; · iexact H8
    ipureintro
    rw [hr (k0_off10 i) (k0_off10_inb i h3) 0 (k0_off10_eq i) S _ harg11, hr (k0_off11 i) (k0_off11_inb i h3) 1 (k0_off11_eq i) S _ harg11, hr (k0_off12 i) (k0_off12_inb i h3) 2 (k0_off12_eq i) S _ harg11, hr (k0_off13 i) (k0_off13_inb i h3) 3 (k0_off13_eq i) S _ harg11, hr (k0_off14 i) (k0_off14_inb i h3) 4 (k0_off14_eq i) S _ harg11, hr (k0_off15 i) (k0_off15_inb i h3) 5 (k0_off15_eq i) S _ harg11, hr (k0_off16 i) (k0_off16_inb i h3) 6 (k0_off16_eq i) S _ harg11, hr (k0_off17 i) (k0_off17_inb i h3) 7 (k0_off17_eq i) S _ harg11, hr (k0_off18 i) (k0_off18_inb i h3) 8 (k0_off18_eq i) S _ harg11]
    exact emit_read _ s S inb
  isplitl [H9]
  · iexists _; isplitr; swap; · iexact H9
    ipureintro
    rw [hr (k0_off10 i) (k0_off10_inb i h3) 0 (k0_off10_eq i) Z _ harg12, hr (k0_off11 i) (k0_off11_inb i h3) 1 (k0_off11_eq i) Z _ harg12, hr (k0_off12 i) (k0_off12_inb i h3) 2 (k0_off12_eq i) Z _ harg12, hr (k0_off13 i) (k0_off13_inb i h3) 3 (k0_off13_eq i) Z _ harg12, hr (k0_off14 i) (k0_off14_inb i h3) 4 (k0_off14_eq i) Z _ harg12, hr (k0_off15 i) (k0_off15_inb i h3) 5 (k0_off15_eq i) Z _ harg12, hr (k0_off16 i) (k0_off16_inb i h3) 6 (k0_off16_eq i) Z _ harg12, hr (k0_off17 i) (k0_off17_inb i h3) 7 (k0_off17_eq i) Z _ harg12, hr (k0_off18 i) (k0_off18_inb i h3) 8 (k0_off18_eq i) Z _ harg12]
    exact emit_read _ s Z inb
  isplitl [HS]; · iexists _; isplitr; · ipureintro; exact harg11.read_unread _
                  iexact HS
  iexists _; isplitr; · ipureintro; exact harg12.read_unread _
  iexact HZ

end Cert.KernelIdeal.Hand

end
-- ==== Proof.Kern.Inv.lean ====
/- What the carried scratch holds before each grid point, and the arrays the four results hold, from the argument
   arrays: the quantised rows of a block row, kept in one slot while the other is filled. -/
module

public import proofs.«01_k».proof.Proof.Kern.Mul
public import proofs.«01_k».proof.Proof.Kern.Emit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The sixty-four rows of block `b` of the activations (from block 287 on, block 287). -/
def xblk (X : Vec F S18432x7168 .bf16) (b : ℕ) : Vec F S64x7168 .bf16 :=
  fun j => X (ix2 ⟨64 * min b 287 + (j 0).val, by
    have h : (j 0).val < 64 := (j 0).isLt
    have := Nat.min_le_right b 287
    show _ < 18432
    omega⟩ (j 1))

/-- A row's place among the sixty-four of its block. -/
abbrev inBlk (r : ℕ) : Fin 64 := ⟨r % 64, Nat.mod_lt _ (by decide)⟩

/-- Row `r`'s entry of the code scratch at column `k`: the code below column 6912, the activation from it on. -/
def codeAt (X : Vec F S18432x7168 .bf16) (r : ℕ) (k : Fin 7168) : F .bf16 :=
  if h : k.val < 6912 then k0_pay10 (xBase (xblk X (r / 64))) (ix3 (n0 := 1) 0 (inBlk r) (⟨k.val, h⟩ : Fin 6912))
  else k0_pay11 (xSide (xblk X (r / 64))) (ix3 (n0 := 1) 0 (inBlk r) (⟨k.val - 6912, by omega⟩ : Fin 256))

/-- Row `r`'s scale, at a lane. -/
def scaleAt (X : Vec F S18432x7168 .bf16) (r : ℕ) (l : Fin 128) : F .f32 :=
  k0_pay1 (k0_pay12 (xBase (xblk X (r / 64)))) (ix3 (n0 := 1) 0 (inBlk r) l)

/-- Row `r`'s minimum, at a lane. -/
def zeroAt (X : Vec F S18432x7168 .bf16) (r : ℕ) (l : Fin 128) : F .f32 :=
  k0_pay2 (k0_pay6 (xBase (xblk X (r / 64)))) (ix3 (n0 := 1) 0 (inBlk r) l)

/-- Rows below `lim` of slot `s` hold block row `b`'s data. -/
structure Has (X : Vec F S18432x7168 .bf16) (s b lim : ℕ) (A : Vec F S2x1152x7168 .bf16) (S Z : Vec F S2x1152x128 .f32) : Prop where
  hA : ∀ y : S2x1152x7168.Idx, (y 0).val = s → (y 1).val < lim → A y = codeAt X (1152 * b + (y 1).val) (y 2)
  hS : ∀ y : S2x1152x128.Idx, (y 0).val = s → (y 1).val < lim → S y = scaleAt X (1152 * b + (y 1).val) (y 2)
  hZ : ∀ y : S2x1152x128.Idx, (y 0).val = s → (y 1).val < lim → Z y = zeroAt X (1152 * b + (y 1).val) (y 2)

/-- No row is claimed below row zero. -/
theorem Has.zero (X : Vec F S18432x7168 .bf16) (s b : ℕ) (A : Vec F S2x1152x7168 .bf16) (S Z : Vec F S2x1152x128 .f32) : Has X s b 0 A S Z :=
  ⟨fun _ _ h => absurd h (Nat.not_lt_zero _), fun _ _ h => absurd h (Nat.not_lt_zero _), fun _ _ h => absurd h (Nat.not_lt_zero _)⟩

/-- What holds before point `t`: the rows of the current slot quantised so far, and the whole of the other slot. -/
def Inv (X : Vec F S18432x7168 .bf16) (t : ℕ) (A : Vec F S2x1152x7168 .bf16) (S Z : Vec F S2x1152x128 .f32) : Prop :=
  Has X (t / 18 % 2) (t / 18) (64 * (t % 18)) A S Z ∧ (1 ≤ t / 18 → Has X ((t / 18 - 1) % 2) (t / 18 - 1) 1152 A S Z)

/-- QUANTISE extends the current slot by sixty-four rows. -/
theorem QuantPost.extend {X : Vec F S18432x7168 .bf16} {s b n t : ℕ} {A A' : Vec F S2x1152x7168 .bf16} {S Z S' Z' : Vec F S2x1152x128 .f32} {q : Vec F S64x6912 .i8}
    (h : QuantPost s n (xblk X t) A S Z q A' S' Z') (ht : t = 18 * b + n) (hn : n < 18) (hH : Has X s b (64 * n) A S Z) : Has X s b (64 * (n + 1)) A' S' Z' := by
  have row : ∀ r, 64 * n ≤ r → r < 64 * (n + 1) → (1152 * b + r) / 64 = t ∧ (1152 * b + r) % 64 = r - 64 * n := by
    intro r h1 h2; omega
  refine ⟨fun y h0 h1 => ?_, fun y h0 h1 => ?_, fun y h0 h1 => ?_⟩
  · by_cases hlt : (y 1).val < 64 * n
    · rw [h.aOut y (.inr (.inl hlt))]; exact hH.hA y h0 hlt
    · obtain ⟨e1, e2⟩ := row _ (by omega) h1
      unfold codeAt
      have hy2 : (y 2).val < 7168 := (y 2).isLt
      by_cases h2 : (y 2).val < 6912
      · rw [dif_pos h2, e1]
        refine h.aIn y _ fun a => ?_
        fin_cases a
        · exact h0
        · show (y 1).val = 64 * n + (1152 * b + (y 1).val) % 64
          omega
        · exact (Nat.zero_add _).symm
      · rw [dif_neg h2, e1]
        refine h.aSide y _ fun a => ?_
        fin_cases a
        · exact h0
        · show (y 1).val = 64 * n + (1152 * b + (y 1).val) % 64
          omega
        · show (y 2).val = 6912 + ((y 2).val - 6912)
          omega
  · by_cases hlt : (y 1).val < 64 * n
    · rw [h.sOut y (.inr (.inl hlt))]; exact hH.hS y h0 hlt
    · obtain ⟨e1, e2⟩ := row _ (by omega) h1
      unfold scaleAt
      rw [e1]
      refine h.sIn y _ fun a => ?_
      fin_cases a
      · exact h0
      · show (y 1).val = 64 * n + (1152 * b + (y 1).val) % 64
        omega
      · exact (Nat.zero_add _).symm
  · by_cases hlt : (y 1).val < 64 * n
    · rw [h.zOut y (.inr (.inl hlt))]; exact hH.hZ y h0 hlt
    · obtain ⟨e1, e2⟩ := row _ (by omega) h1
      unfold zeroAt
      rw [e1]
      refine h.zIn y _ fun a => ?_
      fin_cases a
      · exact h0
      · show (y 1).val = 64 * n + (1152 * b + (y 1).val) % 64
        omega
      · exact (Nat.zero_add _).symm

/-- QUANTISE leaves the other slot as it was. -/
theorem QuantPost.keep {X : Vec F S18432x7168 .bf16} {x : Vec F S64x7168 .bf16} {s s' b n lim : ℕ} {A A' : Vec F S2x1152x7168 .bf16} {S Z S' Z' : Vec F S2x1152x128 .f32} {q : Vec F S64x6912 .i8}
    (h : QuantPost s n x A S Z q A' S' Z') (hs : s' ≠ s) (hH : Has X s' b lim A S Z) : Has X s' b lim A' S' Z' :=
  ⟨fun y h0 h1 => by rw [h.aOut y (.inl (h0 ▸ hs))]; exact hH.hA y h0 h1,
   fun y h0 h1 => by rw [h.sOut y (.inl (h0 ▸ hs))]; exact hH.hS y h0 h1,
   fun y h0 h1 => by rw [h.zOut y (.inl (h0 ▸ hs))]; exact hH.hZ y h0 h1⟩

/-- After QUANTISE at point `t`: the current slot up to and with the point's rows, and the other slot. -/
theorem QuantPost.both {X : Vec F S18432x7168 .bf16} {t : ℕ} {A A' : Vec F S2x1152x7168 .bf16} {S Z S' Z' : Vec F S2x1152x128 .f32} {q : Vec F S64x6912 .i8}
    (h : QuantPost (t / 18 % 2) (t % 18) (xblk X t) A S Z q A' S' Z') (hI : Inv X t A S Z) :
    Has X (t / 18 % 2) (t / 18) (64 * (t % 18 + 1)) A' S' Z' ∧ (1 ≤ t / 18 → Has X ((t / 18 - 1) % 2) (t / 18 - 1) 1152 A' S' Z') :=
  ⟨h.extend (by omega) (by omega) hI.1, fun h1 => h.keep (by omega) (hI.2 h1)⟩

/-- The invariant at the next point. -/
theorem QuantPost.next {X : Vec F S18432x7168 .bf16} {t : ℕ} {A A' : Vec F S2x1152x7168 .bf16} {S Z S' Z' : Vec F S2x1152x128 .f32} {q : Vec F S64x6912 .i8}
    (h : QuantPost (t / 18 % 2) (t % 18) (xblk X t) A S Z q A' S' Z') (hI : Inv X t A S Z) : Inv X (t + 1) A' S' Z' := by
  obtain ⟨h1, h2⟩ := h.both hI
  unfold Inv
  by_cases hn : t % 18 = 17
  · have e1 : (t + 1) / 18 = t / 18 + 1 := by omega
    have e2 : (t + 1) % 18 = 0 := by omega
    rw [e1, e2]
    refine ⟨Has.zero _ _ _ _ _ _, fun _ => ?_⟩
    rw [hn] at h1
    exact h1
  · have e1 : (t + 1) / 18 = t / 18 := by omega
    have e2 : (t + 1) % 18 = t % 18 + 1 := by omega
    rw [e1, e2]
    exact ⟨h1, h2⟩

/-! ## The blocks of the results -/

/-- Block row `b`'s codes, -/
def codesOf (X : Vec F S18432x7168 .bf16) (b : ℕ) : Vec F S1x1152x6912 .bf16 :=
  fun j => codeAt X (1152 * b + (j 1).val) ⟨(j 2).val, lt_of_lt_of_le (j 2).isLt (by decide : 6912 ≤ 7168)⟩

/-- its side columns, -/
def sidesOf (X : Vec F S18432x7168 .bf16) (b : ℕ) : Vec F S1x1152x256 .bf16 :=
  fun j => codeAt X (1152 * b + (j 1).val) ⟨6912 + (j 2).val, Nat.add_lt_add_left (j 2).isLt 6912⟩

/-- its scales, -/
def scalesOf (X : Vec F S18432x7168 .bf16) (b : ℕ) : Vec F S1x1152x128 .f32 :=
  fun j => scaleAt X (1152 * b + (j 1).val) (j 2)

/-- and its minima. -/
def zerosOf (X : Vec F S18432x7168 .bf16) (b : ℕ) : Vec F S1x1152x128 .f32 :=
  fun j => zeroAt X (1152 * b + (j 1).val) (j 2)

/-- The block of the result from a block row and a block column's weights: its two lane halves. -/
def mulOut (X : Vec F S18432x7168 .bf16) (b : ℕ) (wb : Vec F S3456x256 .i8) (ws : Vec F S1x256 .f32) (wo : Vec F S256x256 .bf16) : Vec F S1152x256 .bf16 :=
  fun y => if h : (y 1).val < 128 then
      k0_pay29 (k0_pay24 wb) (k0_pay25 wb (codesOf X b)) (sidesOf X b) wo ws (scalesOf X b) (zerosOf X b) (ix2 (n0 := 1152) (n1 := 128) (y 0) ⟨(y 1).val, h⟩)
    else
      k0_pay3 (k0_pay26 (sidesOf X b) wo) (k0_pay30 (k0_pay24 wb) (k0_pay25 wb (codesOf X b)) ws (scalesOf X b) (zerosOf X b))
        (ix2 (n0 := 1152) (n1 := 128) (y 0) ⟨(y 1).val - 128, by
          have : (y 1).val < 256 := (y 1).isLt
          omega⟩)

/-- MULTIPLY's block from a slot that holds block row `b`. -/
theorem MulPost.eq {X : Vec F S18432x7168 .bf16} {s : Fin 2} {b : ℕ} {wb : Vec F S3456x256 .i8} {ws : Vec F S1x256 .f32} {wo : Vec F S256x256 .bf16}
    {A : Vec F S2x1152x7168 .bf16} {S Z : Vec F S2x1152x128 .f32} {o : Vec F S1152x256 .bf16}
    (h : MulPost s wb ws wo A S Z o) (hH : Has X s.val b 1152 A S Z) : o = mulOut X b wb ws wo := by
  have eC : codes s A = codesOf X b := funext fun j => hH.hA _ rfl (j 1).isLt
  have eD : sides s A = sidesOf X b := funext fun j => hH.hA _ rfl (j 1).isLt
  have eS : lanes s S = scalesOf X b := funext fun j => hH.hS _ rfl (j 1).isLt
  have eZ : lanes s Z = zerosOf X b := funext fun j => hH.hZ _ rfl (j 1).isLt
  funext y
  have hy : (y 1).val < 256 := (y 1).isLt
  unfold mulOut
  rw [← eC, ← eD, ← eS, ← eZ]
  by_cases h1 : (y 1).val < 128
  · rw [dif_pos h1]
    refine h.low y _ fun a => ?_
    fin_cases a
    · exact (Nat.zero_add _).symm
    · exact (Nat.zero_add _).symm
  · rw [dif_neg h1]
    refine h.high y _ fun a => ?_
    fin_cases a
    · exact (Nat.zero_add _).symm
    · show (y 1).val = 128 + ((y 1).val - 128)
      omega

/-- A block column of the packed weights, -/
def wblk (W : Vec F S3456x4608 .i8) (n : Fin 18) : Vec F S3456x256 .i8 :=
  fun j => W (ix2 (n0 := 3456) (n1 := 4608) (j 0) ⟨256 * n.val + (j 1).val, by
    have h : (j 1).val < 256 := (j 1).isLt
    have := n.isLt
    omega⟩)

/-- of their scales, -/
def sblk (W : Vec F S1x4608 .f32) (n : Fin 18) : Vec F S1x256 .f32 :=
  fun j => W (ix2 (n0 := 1) (n1 := 4608) (j 0) ⟨256 * n.val + (j 1).val, by
    have h : (j 1).val < 256 := (j 1).isLt
    have := n.isLt
    omega⟩)

/-- and of the side weights. -/
def oblk (W : Vec F S256x4608 .bf16) (n : Fin 18) : Vec F S256x256 .bf16 :=
  fun j => W (ix2 (n0 := 256) (n1 := 4608) (j 0) ⟨256 * n.val + (j 1).val, by
    have h : (j 1).val < 256 := (j 1).isLt
    have := n.isLt
    omega⟩)

/-- The array the first result holds. -/
def outY (X : Vec F S18432x7168 .bf16) (W : Vec F S3456x4608 .i8) (WS : Vec F S1x4608 .f32) (WO : Vec F S256x4608 .bf16) : Vec F S18432x4608 .bf16 :=
  fun y =>
    let n : Fin 18 := ⟨(y 1).val / 256, by
      have h : (y 1).val < 4608 := (y 1).isLt
      omega⟩
    mulOut X ((y 0).val / 1152) (wblk W n) (sblk WS n) (oblk WO n)
      (ix2 (n0 := 1152) (n1 := 256) ⟨(y 0).val % 1152, Nat.mod_lt _ (by decide)⟩ ⟨(y 1).val % 256, Nat.mod_lt _ (by decide)⟩)

/-- The array of codes. -/
def outQ (X : Vec F S18432x7168 .bf16) : Vec F S18432x6912 .i8 :=
  fun y => k0_pay9 (xBase (xblk X ((y 0).val / 64))) (ix2 (n0 := 64) (n1 := 6912) (inBlk (y 0).val) (y 1))

/-- The array of scales. -/
def outS (X : Vec F S18432x7168 .bf16) : Vec F S16x1x1152 .f32 :=
  fun y => scaleAt X (1152 * (y 0).val + (y 2).val) 0

/-- The array of minima. -/
def outZ (X : Vec F S18432x7168 .bf16) : Vec F S16x1x1152 .f32 :=
  fun y => zeroAt X (1152 * (y 0).val + (y 2).val) 0

end Cert.KernelIdeal.Hand

end
-- ==== Proof.Kern.Points.lean ====
/- The grid's points: the body's conditions, the windows' block indices, the points that write back, and the blocks of
   the arguments and of the results. -/
module

public import proofs.«01_k».proof.Proof.Kern.Inv
public import Idealize.ShloMosaic.Lib.Pipeline.ValueKit.Geometry
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ)

/-! ## The conditions of the body over the points -/

/-- The grid coordinates of a point. -/
theorem coords_0 (t : Fin cfg0.N) : (grid0.coords t 0).val = t.val / 18 := by
  have ht : t.val < 306 := Nat.lt_of_lt_of_eq t.isLt N_0
  have e : (grid0.coords t 0).val = t.val / 18 % 17 := Pipeline.Grid.coords_val t 0 (by decide) rfl
  omega
/-- The block column of a point. -/
theorem coords_1 (t : Fin cfg0.N) : (grid0.coords t 1).val = t.val % 18 := by
  have e : (grid0.coords t 1).val = t.val / 1 % 18 := Pipeline.Grid.coords_val t 1 (by decide) rfl
  omega

/-- The first condition: the first block row. -/
theorem hcond1 : ∀ t : Fin cfg0.N, k0_cond1 (grid0.coords t) = 1#1 ↔ t.val < 18 :=
  (by decide +kernel : ∀ t : Fin grid0.N, k0_cond1 (grid0.coords t) = 1#1 ↔ t.val < 18)
/-- The second: every later one. -/
theorem hcond2 : ∀ t : Fin cfg0.N, k0_cond2 (grid0.coords t) = 1#1 ↔ 18 ≤ t.val :=
  (by decide +kernel : ∀ t : Fin grid0.N, k0_cond2 (grid0.coords t) = 1#1 ↔ 18 ≤ t.val)
/-- The third: a block row's last column, but for the last block row. -/
theorem hcond3 : ∀ t : Fin cfg0.N, k0_cond3 (grid0.coords t) = 1#1 ↔ t.val % 18 = 17 ∧ t.val < 288 :=
  (by decide +kernel : ∀ t : Fin grid0.N, k0_cond3 (grid0.coords t) = 1#1 ↔ t.val % 18 = 17 ∧ t.val < 288)

/-! ## The windows' block indices -/

/-- The block of the activations at a point, -/
theorem index0 : ∀ t : Fin cfg0.N, win0_0.index t = ![min t.val 287, 0] :=
  (by decide +kernel : ∀ t : Fin grid0.N, win0_0.index t = ![min t.val 287, 0])
/-- of the packed weights, -/
theorem index1 : ∀ t : Fin cfg0.N, win0_1.index t = ![0, t.val % 18] :=
  (by decide +kernel : ∀ t : Fin grid0.N, win0_1.index t = ![0, t.val % 18])
/-- of their scales, -/
theorem index2 : ∀ t : Fin cfg0.N, win0_2.index t = ![0, t.val % 18] :=
  (by decide +kernel : ∀ t : Fin grid0.N, win0_2.index t = ![0, t.val % 18])
/-- of the side weights, -/
theorem index3 : ∀ t : Fin cfg0.N, win0_3.index t = ![0, t.val % 18] :=
  (by decide +kernel : ∀ t : Fin grid0.N, win0_3.index t = ![0, t.val % 18])
/-- of the first result, -/
theorem index4 : ∀ t : Fin cfg0.N, win0_4.index t = ![t.val / 18 - 1, if t.val < 18 then 0 else t.val % 18] :=
  (by decide +kernel : ∀ t : Fin grid0.N, win0_4.index t = ![t.val / 18 - 1, if t.val < 18 then 0 else t.val % 18])
/-- of the codes, -/
theorem index5 : ∀ t : Fin cfg0.N, win0_5.index t = ![min t.val 287, 0] :=
  (by decide +kernel : ∀ t : Fin grid0.N, win0_5.index t = ![min t.val 287, 0])
/-- of the scales, -/
theorem index6 : ∀ t : Fin cfg0.N, win0_6.index t = ![min (t.val / 18) 15, 0, 0] :=
  (by decide +kernel : ∀ t : Fin grid0.N, win0_6.index t = ![min (t.val / 18) 15, 0, 0])
/-- and of the minima. -/
theorem index7 : ∀ t : Fin cfg0.N, win0_7.index t = ![min (t.val / 18) 15, 0, 0] :=
  (by decide +kernel : ∀ t : Fin grid0.N, win0_7.index t = ![min (t.val / 18) 15, 0, 0])

/-! ## The points that write a block back, where the window's stores are skipped -/

/-- The first result is not written back over the first block row, -/
theorem noflush4 : ∀ t : Fin cfg0.N, t.val < 18 → (cfg0.win 4).flush t = false :=
  (by simp only [Window.flush_eq_flushF]; decide +kernel : ∀ t : Fin grid0.N, t.val < 18 → win0_4.flush t = false)
/-- nor the scales or the minima but at a block row's last column; -/
theorem noflush6 : ∀ t : Fin cfg0.N, ¬ (t.val % 18 = 17 ∧ t.val < 288) → t.val ≠ 305 → (cfg0.win 6).flush t = false :=
  (by simp only [Window.flush_eq_flushF]; decide +kernel : ∀ t : Fin grid0.N, ¬ (t.val % 18 = 17 ∧ t.val < 288) → t.val ≠ 305 → win0_6.flush t = false)
/-- the minima likewise. -/
theorem noflush7 : ∀ t : Fin cfg0.N, ¬ (t.val % 18 = 17 ∧ t.val < 288) → t.val ≠ 305 → (cfg0.win 7).flush t = false :=
  (by simp only [Window.flush_eq_flushF]; decide +kernel : ∀ t : Fin grid0.N, ¬ (t.val % 18 = 17 ∧ t.val < 288) → t.val ≠ 305 → win0_7.flush t = false)
/-- At the grid's end both are written back; -/
theorem flush6 : ∀ t : Fin cfg0.N, t.val = 305 → (cfg0.win 6).flush t = true :=
  (by simp only [Window.flush_eq_flushF]; decide +kernel : ∀ t : Fin grid0.N, t.val = 305 → win0_6.flush t = true)
/-- the minima likewise; -/
theorem flush7 : ∀ t : Fin cfg0.N, t.val = 305 → (cfg0.win 7).flush t = true :=
  (by simp only [Window.flush_eq_flushF]; decide +kernel : ∀ t : Fin grid0.N, t.val = 305 → win0_7.flush t = true)
/-- the last block row's block stays in its buffer to the end. -/
theorem lastflush6 : ∀ t : Fin cfg0.N, 287 ≤ t.val → t.val < 305 → (cfg0.win 6).flush t = false :=
  (by simp only [Window.flush_eq_flushF]; decide +kernel : ∀ t : Fin grid0.N, 287 ≤ t.val → t.val < 305 → win0_6.flush t = false)
/-- the minima likewise. -/
theorem lastflush7 : ∀ t : Fin cfg0.N, 287 ≤ t.val → t.val < 305 → (cfg0.win 7).flush t = false :=
  (by simp only [Window.flush_eq_flushF]; decide +kernel : ∀ t : Fin grid0.N, 287 ≤ t.val → t.val < 305 → win0_7.flush t = false)

/-! ## Where the windows are idle -/

/-- Where the body leaves the first result's buffer alone: over the first block row; -/
theorem idle4 (t : Fin cfg0.N) : cfg0.idle 4 (cfg0.grid.coords t) = decide (t.val < 18) := by
  show (!(k0_cond2 (grid0.coords t) == 1#1)) = _
  by_cases h : k0_cond2 (grid0.coords t) = 1#1
  · have := (hcond2 t).mp h
    rw [h, decide_eq_false (by omega)]; rfl
  · have h' : ¬ 18 ≤ t.val := fun h' => h ((hcond2 t).mpr h')
    rw [beq_eq_false_iff_ne.mpr h, decide_eq_true (by omega)]; rfl
/-- the codes' buffer: nowhere; -/
theorem idle5 : ∀ t : Fin cfg0.N, cfg0.idle 5 (cfg0.grid.coords t) = false :=
  (by decide +kernel : ∀ t : Fin grid0.N, idle0 5 (grid0.coords t) = false)
/-- the scales' buffer: away from a block row's last column; -/
theorem idle6 (t : Fin cfg0.N) : cfg0.idle 6 (cfg0.grid.coords t) = !decide (t.val % 18 = 17 ∧ t.val < 288) := by
  show (!(k0_cond3 (grid0.coords t) == 1#1)) = _
  by_cases h : k0_cond3 (grid0.coords t) = 1#1
  · rw [h, decide_eq_true ((hcond3 t).mp h)]; rfl
  · rw [beq_eq_false_iff_ne.mpr h, decide_eq_false fun h' => h ((hcond3 t).mpr h')]
/-- the minima's likewise. -/
theorem idle7 (t : Fin cfg0.N) : cfg0.idle 7 (cfg0.grid.coords t) = !decide (t.val % 18 = 17 ∧ t.val < 288) := idle6 t

/-! ## The blocks of the arrays -/

/-- The activations as the region finds them, -/
abbrev xArr (c : Dev nD) : Vec F S18432x7168 .bf16 := V m c main_v0
/-- the packed weights, -/
abbrev wArr (c : Dev nD) : Vec F S3456x4608 .i8 := V m c main_arg1
/-- their scales, -/
abbrev sArr (c : Dev nD) : Vec F S1x4608 .f32 := V m c main_v1
/-- the side weights. -/
abbrev oArr (c : Dev nD) : Vec F S256x4608 .bf16 := V m c main_arg3

/-- A point's block column. -/
abbrev colOf (t : Fin cfg0.N) : Fin 18 := ⟨t.val % 18, Nat.mod_lt _ (by decide)⟩

/-- A point's block of the activations, -/
theorem iblk0_eq (c : Dev nD) (t : Fin cfg0.N) : iblk m c 0 t = xblk (xArr m c) t.val := by
  funext j
  unfold iblk xblk
  rw [View.read_apply]
  show V m c main_v0 _ = V m c main_v0 _
  congr 1
  funext a
  apply Fin.ext
  match a with
  | ⟨0, _⟩ => show win0_0.index t 0 * 64 + 1 * (j 0).val = 64 * min t.val 287 + (j 0).val; rw [index0]; show min t.val 287 * 64 + _ = _; omega
  | ⟨1, _⟩ => show win0_0.index t 1 * 7168 + 1 * (j 1).val = (j 1).val; rw [index0]; show 0 * 7168 + _ = _; omega

/-- of the packed weights, -/
theorem iblk1_eq (c : Dev nD) (t : Fin cfg0.N) : iblk m c 1 t = wblk (wArr m c) (colOf t) := by
  funext j
  unfold iblk wblk
  rw [View.read_apply]
  show V m c main_arg1 _ = V m c main_arg1 _
  congr 1
  funext a
  apply Fin.ext
  match a with
  | ⟨0, _⟩ => show win0_1.index t 0 * 3456 + 1 * (j 0).val = (j 0).val; rw [index1]; show 0 * 3456 + _ = _; omega
  | ⟨1, _⟩ => show win0_1.index t 1 * 256 + 1 * (j 1).val = 256 * (t.val % 18) + (j 1).val; rw [index1]; show t.val % 18 * 256 + _ = _; omega

/-- of their scales, -/
theorem iblk2_eq (c : Dev nD) (t : Fin cfg0.N) : iblk m c 2 t = sblk (sArr m c) (colOf t) := by
  funext j
  unfold iblk sblk
  rw [View.read_apply]
  show V m c main_v1 _ = V m c main_v1 _
  congr 1
  funext a
  apply Fin.ext
  match a with
  | ⟨0, _⟩ => show win0_2.index t 0 * 1 + 1 * (j 0).val = (j 0).val; rw [index2]; show 0 * 1 + _ = _; omega
  | ⟨1, _⟩ => show win0_2.index t 1 * 256 + 1 * (j 1).val = 256 * (t.val % 18) + (j 1).val; rw [index2]; show t.val % 18 * 256 + _ = _; omega

/-- and of the side weights. -/
theorem iblk3_eq (c : Dev nD) (t : Fin cfg0.N) : iblk m c 3 t = oblk (oArr m c) (colOf t) := by
  funext j
  unfold iblk oblk
  rw [View.read_apply]
  show V m c main_arg3 _ = V m c main_arg3 _
  congr 1
  funext a
  apply Fin.ext
  match a with
  | ⟨0, _⟩ => show win0_3.index t 0 * 256 + 1 * (j 0).val = (j 0).val; rw [index3]; show 0 * 256 + _ = _; omega
  | ⟨1, _⟩ => show win0_3.index t 1 * 256 + 1 * (j 1).val = 256 * (t.val % 18) + (j 1).val; rw [index3]; show t.val % 18 * 256 + _ = _; omega

/-- The block of the first result a point's window names, from the second block row of points on. -/
theorem blkY_eq (c : Dev nD) (t : Fin cfg0.N) (ht : 18 ≤ t.val) :
    (win0_4.blk t).view.read (Elt F) (outY (xArr m c) (wArr m c) (sArr m c) (oArr m c))
      = mulOut (xArr m c) (t.val / 18 - 1) (wblk (wArr m c) (colOf t)) (sblk (sArr m c) (colOf t)) (oblk (oArr m c) (colOf t)) := by
  funext j
  rw [View.read_apply]
  have hj0 : (j 0).val < 1152 := (j 0).isLt
  have hj1 : (j 1).val < 256 := (j 1).isLt
  have e0 : ((win0_4.blk t).view.emb j 0 : Nat) = 1152 * (t.val / 18 - 1) + (j 0).val := by
    show win0_4.index t 0 * 1152 + 1 * (j 0).val = _
    rw [index4]; show (t.val / 18 - 1) * 1152 + _ = _; omega
  have e1 : ((win0_4.blk t).view.emb j 1 : Nat) = 256 * (t.val % 18) + (j 1).val := by
    show win0_4.index t 1 * 256 + 1 * (j 1).val = _
    rw [index4]; show (if t.val < 18 then 0 else t.val % 18) * 256 + _ = _
    rw [if_neg (by omega)]; omega
  show outY _ _ _ _ ((win0_4.blk t).view.emb j) = _
  generalize (win0_4.blk t).view.emb j = y at e0 e1
  unfold outY
  have h0 : (y 0).val / 1152 = t.val / 18 - 1 := by rw [e0]; omega
  have h1 : (⟨(y 1).val / 256, by have h : (y 1).val < 4608 := (y 1).isLt; omega⟩ : Fin 18) = colOf t := Fin.ext (by show (y 1).val / 256 = t.val % 18; rw [e1]; omega)
  show mulOut _ ((y 0).val / 1152) (wblk _ ⟨(y 1).val / 256, _⟩) (sblk _ ⟨(y 1).val / 256, _⟩) (oblk _ ⟨(y 1).val / 256, _⟩) _ = _
  rw [h0, h1]
  congr 1
  funext a
  apply Fin.ext
  match a with
  | ⟨0, _⟩ => show (y 0).val % 1152 = (j 0).val; omega
  | ⟨1, _⟩ => show (y 1).val % 256 = (j 1).val; omega

/-- The block of the codes a point's window names. -/
theorem blkQ_eq (c : Dev nD) (t : Fin cfg0.N) :
    (win0_5.blk t).view.read (Elt F) (outQ (xArr m c)) = k0_pay9 (xBase (xblk (xArr m c) t.val)) := by
  funext j
  rw [View.read_apply]
  have hj0 : (j 0).val < 64 := (j 0).isLt
  have e0 : ((win0_5.blk t).view.emb j 0 : Nat) = 64 * min t.val 287 + (j 0).val := by
    show win0_5.index t 0 * 64 + 1 * (j 0).val = _
    rw [index5]; show (min t.val 287) * 64 + _ = _; omega
  have e1 : ((win0_5.blk t).view.emb j 1 : Nat) = (j 1).val := by
    show win0_5.index t 1 * 6912 + 1 * (j 1).val = _
    rw [index5]; show 0 * 6912 + _ = _; omega
  show outQ _ ((win0_5.blk t).view.emb j) = _
  generalize (win0_5.blk t).view.emb j = y at e0 e1
  unfold outQ
  have h0 : xblk (xArr m c) ((y 0).val / 64) = xblk (xArr m c) t.val := by
    unfold xblk
    have : min ((y 0).val / 64) 287 = min t.val 287 := by omega
    simp only [this]
  rw [h0]
  congr 1
  funext a
  apply Fin.ext
  match a with
  | ⟨0, _⟩ => show (y 0).val % 64 = (j 0).val; omega
  | ⟨1, _⟩ => show (y 1).val = (j 1).val; omega

/-- The block of the scales a point's window names. -/
theorem blkS_eq (c : Dev nD) (t : Fin cfg0.N) :
    (win0_6.blk t).view.read (Elt F) (outS (xArr m c)) = fun j : S1x1x1152.Idx => scaleAt (xArr m c) (1152 * min (t.val / 18) 15 + (j 2).val) 0 := by
  funext j
  rw [View.read_apply]
  have hj0 : (j 0).val < 1 := (j 0).isLt
  have e0 : ((win0_6.blk t).view.emb j 0 : Nat) = min (t.val / 18) 15 := by
    show win0_6.index t 0 * 1 + 1 * (j 0).val = _
    rw [index6]; show (min (t.val / 18) 15) * 1 + _ = _; omega
  have e2 : ((win0_6.blk t).view.emb j 2 : Nat) = (j 2).val := by
    show win0_6.index t 2 * 1152 + 1 * (j 2).val = _
    rw [index6]; show 0 * 1152 + _ = _; omega
  show outS _ ((win0_6.blk t).view.emb j) = _
  unfold outS
  rw [e0, e2]

/-- The block of the minima a point's window names. -/
theorem blkZ_eq (c : Dev nD) (t : Fin cfg0.N) :
    (win0_7.blk t).view.read (Elt F) (outZ (xArr m c)) = fun j : S1x1x1152.Idx => zeroAt (xArr m c) (1152 * min (t.val / 18) 15 + (j 2).val) 0 := by
  funext j
  rw [View.read_apply]
  have hj0 : (j 0).val < 1 := (j 0).isLt
  have e0 : ((win0_7.blk t).view.emb j 0 : Nat) = min (t.val / 18) 15 := by
    show win0_7.index t 0 * 1 + 1 * (j 0).val = _
    rw [index7]; show (min (t.val / 18) 15) * 1 + _ = _; omega
  have e2 : ((win0_7.blk t).view.emb j 2 : Nat) = (j 2).val := by
    show win0_7.index t 2 * 1152 + 1 * (j 2).val = _
    rw [index7]; show 0 * 1152 + _ = _; omega
  show outZ _ ((win0_7.blk t).view.emb j) = _
  unfold outZ
  rw [e0, e2]

/-- EMIT's blocks are the blocks of the scales and the minima. -/
theorem Has.lane {X : Vec F S18432x7168 .bf16} {s : Fin 2} {b : ℕ} {A : Vec F S2x1152x7168 .bf16} {S Z : Vec F S2x1152x128 .f32} (h : Has X s.val b 1152 A S Z) :
    firstLane s S = (fun j : S1x1x1152.Idx => scaleAt X (1152 * b + (j 2).val) 0) ∧ firstLane s Z = fun j : S1x1x1152.Idx => zeroAt X (1152 * b + (j 2).val) 0 :=
  ⟨funext fun j => h.hS _ rfl (j 2).isLt, funext fun j => h.hZ _ rfl (j 2).isLt⟩

end Cert.KernelIdeal.Hand

end
-- ==== Proof.Kern.Body.lean ====
/- The pipeline's proof data (what every buffer holds at every point) and the body's obligation to it. -/
module

public import proofs.«01_k».proof.Proof.Kern.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ)

/-! ## The memrefs of a point -/

/-- The staging buffer of the activations at a point, -/
abbrev ms0 (t : Fin cfg0.N) : Memref sig .tc .vmem S64x7168 .bf16 := win0_0.stage (cfg0.slots t 0)
/-- which is a whole buffer. -/
abbrev hs0 (t : Fin cfg0.N) : (ms0 t).IsWhole := hstage0_0 ((cfg0.slots t 0).cast nbuf0_0)
/-- The staging buffer of the packed weights at a point, -/
abbrev ms1 (t : Fin cfg0.N) : Memref sig .tc .vmem S3456x256 .i8 := win0_1.stage (cfg0.slots t 1)
/-- which is a whole buffer. -/
abbrev hs1 (t : Fin cfg0.N) : (ms1 t).IsWhole := hstage0_1 ((cfg0.slots t 1).cast nbuf0_1)
/-- The staging buffer of the weight scales at a point, -/
abbrev ms2 (t : Fin cfg0.N) : Memref sig .tc .vmem S1x256 .f32 := win0_2.stage (cfg0.slots t 2)
/-- which is a whole buffer. -/
abbrev hs2 (t : Fin cfg0.N) : (ms2 t).IsWhole := hstage0_2 ((cfg0.slots t 2).cast nbuf0_2)
/-- The staging buffer of the side weights at a point, -/
abbrev ms3 (t : Fin cfg0.N) : Memref sig .tc .vmem S256x256 .bf16 := win0_3.stage (cfg0.slots t 3)
/-- which is a whole buffer. -/
abbrev hs3 (t : Fin cfg0.N) : (ms3 t).IsWhole := hstage0_3 ((cfg0.slots t 3).cast nbuf0_3)
/-- The staging buffer of the first result at a point, -/
abbrev ms4 (t : Fin cfg0.N) : Memref sig .tc .vmem S1152x256 .bf16 := win0_4.stage (cfg0.slots t 4)
/-- which is a whole buffer. -/
abbrev hs4 (t : Fin cfg0.N) : (ms4 t).IsWhole := hstage0_4 ((cfg0.slots t 4).cast nbuf0_4)
/-- The staging buffer of the codes at a point, -/
abbrev ms5 (t : Fin cfg0.N) : Memref sig .tc .vmem S64x6912 .i8 := win0_5.stage (cfg0.slots t 5)
/-- which is a whole buffer. -/
abbrev hs5 (t : Fin cfg0.N) : (ms5 t).IsWhole := hstage0_5 ((cfg0.slots t 5).cast nbuf0_5)
/-- The staging buffer of the scales at a point, -/
abbrev ms6 (t : Fin cfg0.N) : Memref sig .tc .vmem S1x1x1152 .f32 := win0_6.stage (cfg0.slots t 6)
/-- which is a whole buffer. -/
abbrev hs6 (t : Fin cfg0.N) : (ms6 t).IsWhole := hstage0_6 ((cfg0.slots t 6).cast nbuf0_6)
/-- The staging buffer of the minima at a point, -/
abbrev ms7 (t : Fin cfg0.N) : Memref sig .tc .vmem S1x1x1152 .f32 := win0_7.stage (cfg0.slots t 7)
/-- which is a whole buffer. -/
abbrev hs7 (t : Fin cfg0.N) : (ms7 t).IsWhole := hstage0_7 ((cfg0.slots t 7).cast nbuf0_7)
/-- The codes' scratch, whole, -/
abbrev scA : Memref sig .tc .vmem S2x1152x7168 .bf16 := Memref.whole cc0_scratch0
/-- the scales' scratch, -/
abbrev scS : Memref sig .tc .vmem S2x1152x128 .f32 := Memref.whole cc0_scratch1
/-- and the minima's. -/
abbrev scZ : Memref sig .tc .vmem S2x1152x128 .f32 := Memref.whole cc0_scratch2

/-- The region's own invariant: the scratch at some contents, and the generator register. -/
theorem phiA_eq (c : Dev nD) :
    (Pipeline.ΦA spec0 c : sProp 𝕄)
      = iprop(iprop((∃ d, owns (c : Thread nD τ) scA fullShare d) ∗ (∃ d, owns (c : Thread nD τ) scS fullShare d) ∗ (∃ d, owns (c : Thread nD τ) scZ fullShare d)) ∗ (∃ r, prngReg c r)) := by
  unfold Pipeline.ΦA; rw [scopedRest0_eq]; simp only [scA, scS, scZ, owns_whole]; try rfl

/-! ## The proof data -/

/-- The scratch before point `t`: some contents the invariant holds of. -/
def carried (c : Dev nD) (t : ℕ) : sProp 𝕄 :=
  iprop((∃ A S Z, ⌜Inv (xArr m c) t A S Z⌝ ∗ owns (c : Thread nD τ) scA fullShare A ∗ owns (c : Thread nD τ) scS fullShare S ∗ owns (c : Thread nD τ) scZ fullShare Z) ∗ (∃ r, prngReg c r))

/-- Each window's buffer after a point's body: an argument's block, or the block of the finished result; between
    points, the scratch as the invariant says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (win0_4.blk t).view.read (Elt F) (outY (xArr m c) (wArr m c) (sArr m c) (oArr m c))
    | ⟨5, _⟩ => (win0_5.blk t).view.read (Elt F) (outQ (xArr m c))
    | ⟨6, _⟩ => (win0_6.blk t).view.read (Elt F) (outS (xArr m c))
    | ⟨7, _⟩ => (win0_7.blk t).view.read (Elt F) (outZ (xArr m c))
  Φ t := carried m c t.val
  q _ := fullShare
  owed _ := 0

/-- The arrays a region's windows name are the region's at entry. -/
theorem A_eq (c : Dev nD) (w : Fin cfg0.W) : (dats m 0 c).A w = V m c (Pipeline.arrRef spec0 w) := by
  dsimp only [dats]
/-- After a point's body the activations' buffer holds what it held before, -/
theorem after_0 (c : Dev nD) (t : Fin cfg0.N) : (dats m 0 c).after 0 t = iblk m c 0 t := by dsimp only [dats]
/-- the packed weights' likewise, -/
theorem after_1 (c : Dev nD) (t : Fin cfg0.N) : (dats m 0 c).after 1 t = iblk m c 1 t := by dsimp only [dats]
/-- their scales' likewise, -/
theorem after_2 (c : Dev nD) (t : Fin cfg0.N) : (dats m 0 c).after 2 t = iblk m c 2 t := by dsimp only [dats]
/-- the side weights' likewise; -/
theorem after_3 (c : Dev nD) (t : Fin cfg0.N) : (dats m 0 c).after 3 t = iblk m c 3 t := by dsimp only [dats]
/-- the first result's its block of the finished result, -/
theorem after_4 (c : Dev nD) (t : Fin cfg0.N) : (dats m 0 c).after 4 t = (win0_4.blk t).view.read (Elt F) (outY (xArr m c) (wArr m c) (sArr m c) (oArr m c)) := by dsimp only [dats]
/-- the codes' likewise, -/
theorem after_5 (c : Dev nD) (t : Fin cfg0.N) : (dats m 0 c).after 5 t = (win0_5.blk t).view.read (Elt F) (outQ (xArr m c)) := by dsimp only [dats]
/-- the scales' likewise, -/
theorem after_6 (c : Dev nD) (t : Fin cfg0.N) : (dats m 0 c).after 6 t = (win0_6.blk t).view.read (Elt F) (outS (xArr m c)) := by dsimp only [dats]
/-- and the minima's likewise. -/
theorem after_7 (c : Dev nD) (t : Fin cfg0.N) : (dats m 0 c).after 7 t = (win0_7.blk t).view.read (Elt F) (outZ (xArr m c)) := by dsimp only [dats]

/-- Before a point's body the activations' buffer holds the point's rows, -/
theorem before_0 (c : Dev nD) (t : Fin cfg0.N) (d) : (dats m 0 c).before 0 t d = xblk (xArr m c) t.val :=
  (before0_0_of m (dats m 0 c) (A_eq m c 0) (after_0 m c) t d).trans (iblk0_eq m c t)
/-- the packed weights' their block column, -/
theorem before_1 (c : Dev nD) (t : Fin cfg0.N) (d) : (dats m 0 c).before 1 t d = wblk (wArr m c) (colOf t) :=
  (before0_1_of m (dats m 0 c) (A_eq m c 1) (after_1 m c) t d).trans (iblk1_eq m c t)
/-- the weight scales' theirs, -/
theorem before_2 (c : Dev nD) (t : Fin cfg0.N) (d) : (dats m 0 c).before 2 t d = sblk (sArr m c) (colOf t) :=
  (before0_2_of m (dats m 0 c) (A_eq m c 2) (after_2 m c) t d).trans (iblk2_eq m c t)
/-- and the side weights' theirs. -/
theorem before_3 (c : Dev nD) (t : Fin cfg0.N) (d) : (dats m 0 c).before 3 t d = oblk (oArr m c) (colOf t) :=
  (before0_3_of m (dats m 0 c) (A_eq m c 3) (after_3 m c) t d).trans (iblk3_eq m c t)

/-- The activations' buffer is returned holding the point's rows, -/
theorem leaves_0 (c : Dev nD) (t : Fin cfg0.N) : (dats m 0 c).leavesExact 0 t = owns (c : Thread nD τ) (ms0 t) fullShare (xblk (xArr m c) t.val) := by
  unfold Dat.leavesExact; rw [show cfg0.idle 0 (grid0.coords t) = false from rfl, after_0, iblk0_eq]
/-- the packed weights' their block column, -/
theorem leaves_1 (c : Dev nD) (t : Fin cfg0.N) : (dats m 0 c).leavesExact 1 t = owns (c : Thread nD τ) (ms1 t) fullShare (wblk (wArr m c) (colOf t)) := by
  unfold Dat.leavesExact; rw [show cfg0.idle 1 (grid0.coords t) = false from rfl, after_1, iblk1_eq]
/-- the weight scales' theirs, -/
theorem leaves_2 (c : Dev nD) (t : Fin cfg0.N) : (dats m 0 c).leavesExact 2 t = owns (c : Thread nD τ) (ms2 t) fullShare (sblk (sArr m c) (colOf t)) := by
  unfold Dat.leavesExact; rw [show cfg0.idle 2 (grid0.coords t) = false from rfl, after_2, iblk2_eq]
/-- and the side weights' theirs. -/
theorem leaves_3 (c : Dev nD) (t : Fin cfg0.N) : (dats m 0 c).leavesExact 3 t = owns (c : Thread nD τ) (ms3 t) fullShare (oblk (oArr m c) (colOf t)) := by
  unfold Dat.leavesExact; rw [show cfg0.idle 3 (grid0.coords t) = false from rfl, after_3, iblk3_eq]

/-- At the grid's end the window's buffer still holds the last block row's block. -/
theorem last_6 (c : Dev nD) (t : Fin cfg0.N) (ht : t.val = 305) (d) : (dats m 0 c).before 6 t d = (dats m 0 c).after 6 t := by
  have hN : cfg0.N = 306 := N_0
  rw [(dats m 0 c).before_idle_run 6 (fun _ => rfl) d 17 t (by omega) (fun j h1 h2 => ⟨by rw [idle6, decide_eq_false (by omega)]; rfl, lastflush6 j (by omega) (by omega)⟩)]
  rw [(dats m 0 c).before_of_pos 6 _ (by show t.val - 17 ≠ 0; omega) rfl d, lastflush6 _ (by show 287 ≤ t.val - 17 - 1; omega) (by show t.val - 17 - 1 < 305; omega), if_neg Bool.false_ne_true]
  unfold Dat.left
  rw [idle6, decide_eq_true (by constructor <;> (show _; simp only []; omega))]
  show (dats m 0 c).after 6 _ = _
  rw [after_6, after_6, blkS_eq, blkS_eq]
  have : min ((t.val - 17 - 1) / 18) 15 = min (t.val / 18) 15 := by omega
  simp only [this]
/-- At the grid's end the window's buffer still holds the last block row's block. -/
theorem last_7 (c : Dev nD) (t : Fin cfg0.N) (ht : t.val = 305) (d) : (dats m 0 c).before 7 t d = (dats m 0 c).after 7 t := by
  have hN : cfg0.N = 306 := N_0
  rw [(dats m 0 c).before_idle_run 7 (fun _ => rfl) d 17 t (by omega) (fun j h1 h2 => ⟨by rw [idle7, decide_eq_false (by omega)]; rfl, lastflush7 j (by omega) (by omega)⟩)]
  rw [(dats m 0 c).before_of_pos 7 _ (by show t.val - 17 ≠ 0; omega) rfl d, lastflush7 _ (by show 287 ≤ t.val - 17 - 1; omega) (by show t.val - 17 - 1 < 305; omega), if_neg Bool.false_ne_true]
  unfold Dat.left
  rw [idle7, decide_eq_true (by constructor <;> (show _; simp only []; omega))]
  show (dats m 0 c).after 7 _ = _
  rw [after_7, after_7, blkZ_eq, blkZ_eq]
  have : min ((t.val - 17 - 1) / 18) 15 = min (t.val / 18) 15 := by omega
  simp only [this]

/-! ## The two halves of the body, at a point -/

/-- What the first half leaves: the point's code block, and the point's block of the first result past the first block row. -/
theorem head_run (c : Dev nD) (t : Fin cfg0.N) (A : Vec F S2x1152x7168 .bf16) (S Z : Vec F S2x1152x128 .f32) (hI : Inv (xArr m c) t.val A S Z) (K : PUnit → sProp 𝕄) :
    iprop(owns (c : Thread nD τ) (ms0 t) fullShare (xblk (xArr m c) t.val) ∗ owns (c : Thread nD τ) (ms1 t) fullShare (wblk (wArr m c) (colOf t))
        ∗ owns (c : Thread nD τ) (ms2 t) fullShare (sblk (sArr m c) (colOf t)) ∗ owns (c : Thread nD τ) (ms3 t) fullShare (oblk (oArr m c) (colOf t))
        ∗ (∃ d, owns (c : Thread nD τ) (ms4 t) fullShare ((dats m 0 c).before 4 t d)) ∗ (∃ d, owns (c : Thread nD τ) (ms5 t) fullShare d)
        ∗ owns (c : Thread nD τ) scA fullShare A ∗ owns (c : Thread nD τ) scS fullShare S ∗ owns (c : Thread nD τ) scZ fullShare Z
        ∗ (iprop(owns (c : Thread nD τ) (ms0 t) fullShare (xblk (xArr m c) t.val) ∗ owns (c : Thread nD τ) (ms1 t) fullShare (wblk (wArr m c) (colOf t))
            ∗ owns (c : Thread nD τ) (ms2 t) fullShare (sblk (sArr m c) (colOf t)) ∗ owns (c : Thread nD τ) (ms3 t) fullShare (oblk (oArr m c) (colOf t))
            ∗ (dats m 0 c).leavesExact 4 t ∗ owns (c : Thread nD τ) (ms5 t) fullShare (k0_pay9 (xBase (xblk (xArr m c) t.val)))
            ∗ (∃ A' S' Z', ⌜Has (xArr m c) (t.val / 18 % 2) (t.val / 18) (64 * (t.val % 18 + 1)) A' S' Z' ∧ Inv (xArr m c) (t.val + 1) A' S' Z'⌝
              ∗ owns (c : Thread nD τ) scA fullShare A' ∗ owns (c : Thread nD τ) scS fullShare S' ∗ owns (c : Thread nD τ) scZ fullShare Z')) -∗ K ⟨⟩))
      ⊢ wp frame (wpE (defs₀ (F := F)) Variants.none c none) Set.univ
        (headProg (grid0.coords t) (ms0 t) (ms1 t) (ms2 t) (ms3 t) (ms4 t) (hs4 t) (ms5 t) (hs5 t) scA (Memref.isWhole_whole _) scS scZ) K := by
  have off : ∀ (o : ℕ), (![(grid0.coords t 0).val % 2, 64 * (grid0.coords t 1).val, o] : Fin 3 → ℕ) = ![t.val / 18 % 2, 64 * (t.val % 18), o] := by
    intro o; rw [coords_0, coords_1]
  unfold headProg
  rw [wp_bind]
  by_cases h : t.val < 18
  · rw [dif_pos ((hcond1 t).mpr h), dif_neg fun h' => absurd ((hcond2 t).mp h') (by omega)]
    rw [(dats m 0 c).leavesExact_idle 4 t (by rw [idle4, decide_eq_true h]) (noflush4 t h)]
    iintro ⟨H0, H1, H2, H3, H4, H5, HA, HS, HZ, Hk⟩
    iapply (quant_run c (ms0 t) (hs0 t) (ms5 t) (hs5 t) scA (Memref.isWhole_whole _) scS (Memref.isWhole_whole _) scZ (Memref.isWhole_whole _) _ _ _ _ _ _ _ _ (t.val / 18 % 2) (t.val % 18)
      ((k0_off1_eq _).trans (off _)) ((k0_off2_eq _).trans (off _)) ((k0_off3_eq _).trans (off _)) (xblk (xArr m c) t.val) A S Z Set.univ _)
    isplitl [H0]; · iexact H0
    isplitl [H5]; · iexact H5
    isplitl [HA]; · iexact HA
    isplitl [HS]; · iexact HS
    isplitl [HZ]; · iexact HZ
    iintro ⟨H0, %q, %A', %S', %Z', %hq, H5, HA, HS, HZ⟩
    rw [wp_pure]
    imodintro
    iapply Hk
    rw [hq.q]
    isplitl [H0]; · iexact H0
    isplitl [H1]; · iexact H1
    isplitl [H2]; · iexact H2
    isplitl [H3]; · iexact H3
    isplitl [H4]; · iexact H4
    isplitl [H5]; · iexact H5
    iexists A', S', Z'
    isplitr; · ipureintro; exact ⟨(hq.both hI).1, hq.next hI⟩
    isplitl [HA]; · iexact HA
    isplitl [HS]; · iexact HS
    iexact HZ
  · rw [dif_neg fun h' => h ((hcond1 t).mp h'), dif_pos ((hcond2 t).mpr (by omega)), wp_pure]
    rw [show (dats m 0 c).leavesExact 4 t = owns (c : Thread nD τ) (ms4 t) fullShare ((dats m 0 c).after 4 t) from by
      unfold Dat.leavesExact; rw [idle4, decide_eq_false h], after_4, blkY_eq m c t (by omega)]
    iintro ⟨H0, H1, H2, H3, ⟨%d4, H4⟩, H5, HA, HS, HZ, Hk⟩
    imodintro
    rw [wp_bind]
    iapply (quant_run c (ms0 t) (hs0 t) (ms5 t) (hs5 t) scA (Memref.isWhole_whole _) scS (Memref.isWhole_whole _) scZ (Memref.isWhole_whole _) _ _ _ _ _ _ _ _ (t.val / 18 % 2) (t.val % 18)
      ((k0_off4_eq _).trans (off _)) ((k0_off5_eq _).trans (off _)) ((k0_off6_eq _).trans (off _)) (xblk (xArr m c) t.val) A S Z Set.univ _)
    isplitl [H0]; · iexact H0
    isplitl [H5]; · iexact H5
    isplitl [HA]; · iexact HA
    isplitl [HS]; · iexact HS
    isplitl [HZ]; · iexact HZ
    iintro ⟨H0, %q, %A', %S', %Z', %hq, H5, HA, HS, HZ⟩
    iapply (mul_run c (grid0.coords t) (ms1 t) (hs1 t) (ms2 t) (hs2 t) (ms3 t) (hs3 t) (ms4 t) (hs4 t) scA (Memref.isWhole_whole _) scS (Memref.isWhole_whole _) scZ (Memref.isWhole_whole _)
      ((hcond2 t).mpr (by omega)) ⟨(t.val / 18 - 1) % 2, Nat.mod_lt _ (by decide)⟩ (by rw [coords_0]; show (t.val / 18 - 1) % 2 = _; omega)
      (wblk (wArr m c) (colOf t)) (sblk (sArr m c) (colOf t)) (oblk (oArr m c) (colOf t)) A' S' Z' Set.univ _)
    isplitl [H1]; · iexact H1
    isplitl [H2]; · iexact H2
    isplitl [H3]; · iexact H3
    isplitl [H4]; · iexists _; iexact H4
    isplitl [HA]; · iexact HA
    isplitl [HS]; · iexact HS
    isplitl [HZ]; · iexact HZ
    iintro ⟨H1, H2, H3, ⟨%o, %ho, H4⟩, HA, HS, HZ⟩
    iapply Hk
    rw [hq.q, ho.eq ((hq.both hI).2 (by omega))]
    isplitl [H0]; · iexact H0
    isplitl [H1]; · iexact H1
    isplitl [H2]; · iexact H2
    isplitl [H3]; · iexact H3
    isplitl [H4]; · iexact H4
    isplitl [H5]; · iexact H5
    iexists A', S', Z'
    isplitr; · ipureintro; exact ⟨(hq.both hI).1, hq.next hI⟩
    isplitl [HA]; · iexact HA
    isplitl [HS]; · iexact HS
    iexact HZ

/-- What the second half leaves: at a block row's last column its scales and minima, and elsewhere what was there. -/
theorem tail_run (c : Dev nD) (t : Fin cfg0.N) (A : Vec F S2x1152x7168 .bf16) (S Z : Vec F S2x1152x128 .f32)
    (hH : Has (xArr m c) (t.val / 18 % 2) (t.val / 18) (64 * (t.val % 18 + 1)) A S Z) (K : PUnit → sProp 𝕄) :
    iprop((∃ d, owns (c : Thread nD τ) (ms6 t) fullShare ((dats m 0 c).before 6 t d)) ∗ (∃ d, owns (c : Thread nD τ) (ms7 t) fullShare ((dats m 0 c).before 7 t d))
        ∗ owns (c : Thread nD τ) scS fullShare S ∗ owns (c : Thread nD τ) scZ fullShare Z
        ∗ (iprop((dats m 0 c).leavesExact 6 t ∗ (dats m 0 c).leavesExact 7 t ∗ owns (c : Thread nD τ) scS fullShare S ∗ owns (c : Thread nD τ) scZ fullShare Z) -∗ K ⟨⟩))
      ⊢ wp frame (wpE (defs₀ (F := F)) Variants.none c none) Set.univ
        (tailProg (grid0.coords t) (ms6 t) (ms7 t) scS scZ) K := by
  unfold tailProg
  rw [wp_bind]
  by_cases h : t.val % 18 = 17 ∧ t.val < 288
  · have hlane := Has.lane (X := xArr m c) (s := ⟨t.val / 18 % 2, Nat.mod_lt _ (by decide)⟩) (b := t.val / 18) (A := A) (S := S) (Z := Z)
      (by rw [h.1] at hH; exact hH)
    have hb : min (t.val / 18) 15 = t.val / 18 := by omega
    rw [dif_pos ((hcond3 t).mpr h)]
    rw [show (dats m 0 c).leavesExact 6 t = owns (c : Thread nD τ) (ms6 t) fullShare ((dats m 0 c).after 6 t) from by
      unfold Dat.leavesExact; rw [idle6, decide_eq_true h]; rfl, after_6, blkS_eq]
    rw [show (dats m 0 c).leavesExact 7 t = owns (c : Thread nD τ) (ms7 t) fullShare ((dats m 0 c).after 7 t) from by
      unfold Dat.leavesExact; rw [idle7, decide_eq_true h]; rfl, after_7, blkZ_eq]
    rw [hb, ← hlane.1, ← hlane.2]
    iintro ⟨⟨%d6, H6⟩, ⟨%d7, H7⟩, HS, HZ, Hk⟩
    iapply (emit_run c (grid0.coords t) (ms6 t) (hs6 t) (ms7 t) (hs7 t) scS (Memref.isWhole_whole _) scZ (Memref.isWhole_whole _)
      ((hcond3 t).mpr h) ⟨t.val / 18 % 2, Nat.mod_lt _ (by decide)⟩ (by rw [coords_0]) S Z Set.univ _)
    isplitl [H6]; · iexists _; iexact H6
    isplitl [H7]; · iexists _; iexact H7
    isplitl [HS]; · iexact HS
    isplitl [HZ]; · iexact HZ
    iintro ⟨H6, H7, HS, HZ⟩
    rw [wp_pure]
    imodintro
    iapply Hk
    isplitl [H6]; · iexact H6
    isplitl [H7]; · iexact H7
    isplitl [HS]; · iexact HS
    iexact HZ
  · rw [dif_neg fun h' => h ((hcond3 t).mp h'), wp_pure]
    have hleave : ∀ K' : sProp 𝕄, (iprop((∃ d, owns (c : Thread nD τ) (ms6 t) fullShare ((dats m 0 c).before 6 t d)) ∗ (∃ d, owns (c : Thread nD τ) (ms7 t) fullShare ((dats m 0 c).before 7 t d)) ∗ K') : sProp 𝕄)
        ⊢ iprop((dats m 0 c).leavesExact 6 t ∗ (dats m 0 c).leavesExact 7 t ∗ K') := by
      intro K'
      by_cases hl : t.val = 305
      · simp only [last_6 m c t hl, last_7 m c t hl]
        have e6 : (dats m 0 c).leavesExact 6 t = owns (c : Thread nD τ) (ms6 t) fullShare ((dats m 0 c).after 6 t) := by
          unfold Dat.leavesExact
          rw [idle6, decide_eq_false h, show (cfg0.win 6).flush t = true from flush6 t hl]; rfl
        have e7 : (dats m 0 c).leavesExact 7 t = owns (c : Thread nD τ) (ms7 t) fullShare ((dats m 0 c).after 7 t) := by
          unfold Dat.leavesExact
          rw [idle7, decide_eq_false h, show (cfg0.win 7).flush t = true from flush7 t hl]; rfl
        rw [e6, e7]
        iintro ⟨⟨%d6, H6⟩, ⟨%d7, H7⟩, H⟩
        isplitl [H6]; · iexact H6
        isplitl [H7]; · iexact H7
        iexact H
      · rw [(dats m 0 c).leavesExact_idle 6 t (by rw [idle6, decide_eq_false h]; rfl) (noflush6 t h hl),
          (dats m 0 c).leavesExact_idle 7 t (by rw [idle7, decide_eq_false h]; rfl) (noflush7 t h hl)]
    refine (hleave _).trans ?_
    iintro ⟨H6, H7, HS, HZ, Hk⟩
    imodintro
    rw [wp_pure]
    imodintro
    iapply Hk
    isplitl [H6]; · iexact H6
    isplitl [H7]; · iexact H7
    isplitl [HS]; · iexact HS
    iexact HZ

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.castSucc = carried m c t.val from rfl, show (dats m 0 c).Φ t.succ = carried m c (t.val + 1) from rfl,
    leaves_0, leaves_1, leaves_2, leaves_3,
    show (dats m 0 c).leavesExact 5 t = owns (c : Thread nD τ) (ms5 t) fullShare ((dats m 0 c).after 5 t) from by
      unfold Dat.leavesExact; rw [idle5 t], after_5, blkQ_eq m c t]
  rw [body_halves, wp_bind]
  unfold carried
  iintro ⟨⟨⟨%A, %S, %Z, %hI, HA, HS, HZ⟩, Hg⟩, Ho, ⟨%d0, H0⟩, ⟨%d1, H1⟩, ⟨%d2, H2⟩, ⟨%d3, H3⟩, H4, ⟨%d5, H5⟩, H6, H7⟩
  iapply (head_run m c t A S Z hI _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HS]; · iexact HS
  isplitl [HZ]; · iexact HZ
  iintro ⟨H0, H1, H2, H3, H4, H5, %A', %S', %Z', %hH, HA, HS, HZ⟩
  iapply (tail_run m c t A' S' Z' hH.1 _)
  isplitl [H6]; · iexact H6
  isplitl [H7]; · iexact H7
  isplitl [HS]; · iexact HS
  isplitl [HZ]; · iexact HZ
  iintro ⟨H6, H7, HS, HZ⟩
  isplitl [HA HS HZ Hg]
  · isplitl [HA HS HZ]
    · iexists A', S', Z'
      isplitr; · ipureintro; exact hH.2
      isplitl [HA]; · iexact HA
      isplitl [HS]; · iexact HS
      iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body a point calls. -/
theorem defs₀_row (t : Fin cfg0.N) :
    defs₀ (F := F) .tc cfg0.body (cfg0.bodyArgs t (cfg0.slots t)) = bodyAt0 t := by
  unfold defs₀; rw [Defs.onTc_tc]

/-- The body keeps to the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Kern.Run.lean ====
/- The kernel's run: it terminates, its arguments end unchanged, and its four results are `outY`, `outQ`, `outS` and `outZ`. -/
module

public import proofs.«01_k».proof.Proof.Kern.Body
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

set_option backward.isDefEq.respectTransparency.types false in
/-- The launch: every buffer ends as the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show Pipeline.ΦA spec0 c ⊢ carried m c 0
      rw [phiA_eq]
      unfold carried
      iintro ⟨⟨⟨%A, HA⟩, ⟨%S, HS⟩, ⟨%Z, HZ⟩⟩, Hg⟩
      isplitl [HA HS HZ]
      · iexists A, S, Z
        isplitr
        · ipureintro; exact ⟨Has.zero _ _ _ _ _ _, fun h => absurd h (by decide)⟩
        isplitl [HA]; · iexact HA
        isplitl [HS]; · iexact HS
        iexact HZ
      iexact Hg)
    (hout := fun c => by
      show carried m c _ ⊢ Pipeline.ΦA spec0 c
      rw [phiA_eq]
      unfold carried
      iintro ⟨⟨%A, %S, %Z, -, HA, HS, HZ⟩, Hg⟩
      isplitl [HA HS HZ]
      · isplitl [HA]; · iexists A; iexact HA
        isplitl [HS]; · iexists S; iexact HS
        iexists Z; iexact HZ
      iexact Hg)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: the kernel runs, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The results -/

/-- The array of the first result after the run: the blocks written back cover it. -/
theorem arr_4 (c : Dev nD) : (dats m 0 c).arrAt 4 cfg0.N = outY (xArr m c) (wArr m c) (sArr m c) (oArr m c) := by
  refine (dats m 0 c).arrAt_eq_of_covers 4 _ (by decide +kernel) fun t hf y => ?_
  blk_simp
  rw [after_4, View.read_apply]
  rfl
/-- The array of the codes after the run: the blocks written back cover it. -/
theorem arr_5 (c : Dev nD) : (dats m 0 c).arrAt 5 cfg0.N = outQ (xArr m c) := by
  refine (dats m 0 c).arrAt_eq_of_covers 5 _ (by decide +kernel) fun t hf y => ?_
  blk_simp
  rw [after_5, View.read_apply]
  rfl
/-- The array of the scales after the run: the blocks written back cover it. -/
theorem arr_6 (c : Dev nD) : (dats m 0 c).arrAt 6 cfg0.N = outS (xArr m c) := by
  refine (dats m 0 c).arrAt_eq_of_covers 6 _ (by decide +kernel) fun t hf y => ?_
  blk_simp
  rw [after_6, View.read_apply]
  rfl
/-- The array of the minima after the run: the blocks written back cover it. -/
theorem arr_7 (c : Dev nD) : (dats m 0 c).arrAt 7 cfg0.N = outZ (xArr m c) := by
  refine (dats m 0 c).arrAt_eq_of_covers 7 _ (by decide +kernel) fun t hf y => ?_
  blk_simp
  rw [after_7, View.read_apply]
  rfl

/-- THE VALUES: the kernel's four results as functions of the arguments, the arguments unchanged. -/
theorem values : θ_run defs (onTc (τ := τ) (main (F := F))) ⟨m, fun _ => 0, ρ⟩ (fun r => ∀ c : Dev nD,
      r.2.mem ((c.tc : Thread nD τ).loc main_v2_0) = outY (xArr m c) (wArr m c) (sArr m c) (oArr m c)
      ∧ r.2.mem ((c.tc : Thread nD τ).loc main_v2_1) = outQ (xArr m c)
      ∧ r.2.mem ((c.tc : Thread nD τ).loc main_v2_2) = outS (xArr m c)
      ∧ r.2.mem ((c.tc : Thread nD τ).loc main_v2_3) = outZ (xArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans (arr_4 m c), ((h.1 c).1 5).trans (arr_5 m c), ((h.1 c).1 6).trans (arr_6 m c), ((h.1 c).1 7).trans (arr_7 m c), h.2 c⟩)
    (θ_run_and (run_main m ρ) (unchanged m ρ))

end Cert.KernelIdeal.Hand

end
-- ==== Proof.Kern.Word.lean ====
/- The frame of the kernel on machine words. The kernel and the kernel read over the extended reals are one program
   text printed twice, so their functions and their tables of functions are equal, and the frame proved at every float
   type for the second is the frame of the first. -/
module

public import proofs.«01_k».proof.Proof.Kern.Run
public import proofs.«01_k».proof.Proof.Gen.Kernel

@[expose] public section

noncomputable section

namespace Cert.Kernel.Hand

open Idealize.ShloMosaic Idealize.ShloMosaic.TcCoe Idealize.SL.Sem

variable {F : FTy → Type} [FloatOps F]

/-- The two printed kernel functions are one function. -/
theorem fn_eq : @Cert.Kernel.cc0_quik_linear F _ _ = @Cert.KernelIdeal.cc0_quik_linear F _ _ := rfl

/-- So are the tables that give each label its function. -/
theorem defs0_eq : @Cert.Kernel.defs₀ F _ _ = @Cert.KernelIdeal.defs₀ F _ _ := by
  unfold Cert.Kernel.defs₀ Cert.KernelIdeal.defs₀
  congr 1
  funext l a
  match l, a with
  | 0, (t, s) => rfl

/-- So are the tables extended with the pipeline. -/
theorem defs_eq : @Cert.Kernel.defs F _ _ = @Cert.KernelIdeal.defs F _ _ :=
  congrArg (Pipeline.defs (Cert.Kernel.pcfgs (F := F))) defs0_eq

/-- THE FRAME of the kernel: it runs, its arguments end unchanged, and every semaphore counter ends at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.KernelIdeal.Hand.frame (F := F) m ρ
  rw [defs_eq]
  exact h

end Cert.Kernel.Hand

end
-- ==== Proof.Ref.Frame.lean ====
/- The frame of the reference: it runs, changes none of its arguments and leaves every semaphore counter at zero. -/
module
public import proofs.«01_k».proof.Proof.Gen.ReferenceIdeal.Run
public import Idealize.ShloMosaic.Lib.Quiescent
public import Idealize.ShloMosaic.Lib.Claim

@[expose] public section

noncomputable section

namespace Cert.ReferenceIdeal.Hand

open Idealize.ShloMosaic Idealize.ShloMosaic.TcCoe Idealize.SL.Sem

variable {F : FTy → Type} [FloatOps F]

/-- THE FRAME of the reference. It declares no semaphore, so there is no counter that could be other than zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (Cert.ReferenceIdeal.Value.run m ρ)

end Cert.ReferenceIdeal.Hand

end
-- ==== Proof.Spec.lean ====
/- The layer over the extended reals, element by element, with neither program's tiling: a row's minimum, maximum, scale
   and codes, a weight code from its packed byte, and the arithmetic the two programs' readings of them differ by. -/
module

public import Idealize.ShloMosaic.Lib.Pointwise
public import Idealize.ShloMosaic.PureOps.Ideal

@[expose] public section

noncomputable section

namespace Cert.Quik

open Idealize.ShloMosaic
open scoped BigOperators

/-! ## Definitions -/

/-- The pattern of 15.0, the largest code, as both programs write it. -/
abbrev top15 : EReal := Ideal.ofBits .f32 0x41700000#32

/-- A row's minimum, -/
def rowMin (x : Fin 6912 → EReal) : EReal := Finset.univ.fold min ⊤ x

/-- its maximum, -/
def rowMax (x : Fin 6912 → EReal) : EReal := Finset.univ.fold max ⊥ x

/-- its scale: a fifteenth of the range, one where the row is constant, -/
def scale (x : Fin 6912 → EReal) : EReal := if rowMax x = rowMin x then 1 else Ideal.div (rowMax x - rowMin x) top15

/-- and its code at a column. -/
def code (x : Fin 6912 → EReal) (k : Fin 6912) : EReal :=
  min top15 (max 0 (Ideal.liftRound Ideal.roundHalfEven (Ideal.div (x k - rowMin x) (scale x))))

/-- The code as the byte stored. -/
def codeByte (x : Fin 6912 → EReal) (k : Fin 6912) : BitVec 8 := (Ideal.fptosi 32 (code x k)).setWidth 8

/-- Four bits as a signed number. -/
def signed4 (n : ℕ) : ℤ := if 8 ≤ n then (n : ℤ) - 16 else n

/-- The weight code at row `k` of the unpacked weights from the byte at row `k / 2` of the packed ones: the low four bits
    at an even row, the high four at an odd one. -/
def weight (b : BitVec 8) (k : ℕ) : ℤ := if k % 2 = 0 then signed4 (b.toNat % 16) else signed4 (b.toNat / 16)

/-- An element of the layer's result from its row's scale and minimum, its column's weight scale, the product of codes,
    the column's sum of weight codes, and the product of the side columns. -/
def combine (s z ws acc cs side : EReal) : EReal := s * ws * acc + z * (ws * cs) + side

/-- An element of the layer's result from its row `x` of activations, the row's side columns `s`, its column `p` of packed
    weights, the column's scale `ws` and the column `o` of side weights. -/
def result (x : Fin 6912 → EReal) (s : Fin 256 → EReal) (p : Fin 3456 → BitVec 8) (ws : EReal) (o : Fin 256 → EReal) : EReal :=
  combine (scale x) (rowMin x) ws (∑ k : Fin 6912, code x k * ((weight (p ⟨k.val / 2, by omega⟩) k.val : ℝ) : EReal))
    (∑ k : Fin 6912, ((weight (p ⟨k.val / 2, by omega⟩) k.val : ℝ) : EReal)) (∑ k : Fin 256, s k * o k)

/-! ## Codes are whole numbers from 0 to 15 -/

/-- The pattern's value. -/
theorem top15_eq : top15 = ((15 : ℝ) : EReal) := by
  simp [top15, Ideal.ofBits, Ideal.ieee, -EReal.coe_mul]; norm_num

/-- The patterns of the infinities, from which minima and maxima start: plus infinity at sixteen bits, -/
theorem inf_bf16 : Ideal.ofBits .bf16 0x7F80#16 = ⊤ := by simp [Ideal.ofBits, Ideal.ieee]

/-- minus infinity at sixteen bits, -/
theorem ninf_bf16 : Ideal.ofBits .bf16 0xFF80#16 = ⊥ := by simp [Ideal.ofBits, Ideal.ieee]

/-- plus infinity at thirty-two, -/
theorem inf_f32 : Ideal.ofBits .f32 0x7F800000#32 = ⊤ := by simp [Ideal.ofBits, Ideal.ieee]

/-- and minus infinity at thirty-two. -/
theorem ninf_f32 : Ideal.ofBits .f32 0xFF800000#32 = ⊥ := by simp [Ideal.ofBits, Ideal.ieee]

/-- A rounded value kept between 0 and 15 is a whole number from 0 to 15, infinities included. -/
theorem clip_nat (v : EReal) : ∃ n : ℕ, n ≤ 15 ∧ min top15 (max 0 (Ideal.liftRound Ideal.roundHalfEven v)) = ((n : ℝ) : EReal) := by
  rw [top15_eq]
  induction v using EReal.rec with
  | bot => exact ⟨0, by decide, by rw [show Ideal.liftRound Ideal.roundHalfEven ⊥ = ⊥ from rfl, max_eq_left bot_le, min_eq_right (by exact_mod_cast (by norm_num : (0 : ℝ) ≤ 15))]; simp⟩
  | top => exact ⟨15, le_rfl, by rw [show Ideal.liftRound Ideal.roundHalfEven ⊤ = ⊤ from rfl, max_eq_right le_top, min_eq_left le_top]; simp⟩
  | coe r =>
    have e : Ideal.liftRound Ideal.roundHalfEven (r : EReal) = (((Ideal.roundHalfEven r : ℤ) : ℝ) : EReal) := rfl
    rw [e]
    generalize Ideal.roundHalfEven r = z
    rcases le_total z 0 with h | h
    · refine ⟨0, by decide, ?_⟩
      have : ((z : ℝ) : EReal) ≤ 0 := by exact_mod_cast h
      rw [max_eq_left this]; simp
    · have h0 : (0 : EReal) ≤ ((z : ℝ) : EReal) := by exact_mod_cast h
      rw [max_eq_right h0]
      rcases le_total z 15 with h' | h'
      · refine ⟨z.toNat, by omega, ?_⟩
        have : ((z : ℝ) : EReal) ≤ ((15 : ℝ) : EReal) := by exact_mod_cast h'
        rw [min_eq_right this]
        have hz : ((z.toNat : ℤ)) = z := Int.toNat_of_nonneg h
        rw [← Int.cast_natCast (R := ℝ), hz]
      · refine ⟨15, le_rfl, ?_⟩
        have : ((15 : ℝ) : EReal) ≤ ((z : ℝ) : EReal) := by exact_mod_cast h'
        rw [min_eq_left this]; simp

/-- Such a number read as a word. -/
theorem fptosi_nat (n : ℕ) (h : n ≤ 15) : Ideal.fptosi 32 ((n : ℝ) : EReal) = BitVec.ofNat 32 n := by
  have e : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  unfold Ideal.fptosi
  rw [e]
  exact BitVec.ofInt_natCast 32 n

/-- A code stored as a byte and read back is the code. -/
theorem codeByte_toInt (x : Fin 6912 → EReal) (k : Fin 6912) : ((((codeByte x k).setWidth 32).toInt : ℝ) : EReal) = code x k := by
  obtain ⟨n, hn, e⟩ := clip_nat (Ideal.div (x k - rowMin x) (scale x))
  unfold codeByte code
  rw [e, fptosi_nat n hn]
  have : ((BitVec.ofNat 32 n).setWidth 8 |>.setWidth 32).toInt = (n : ℤ) := by
    interval_cases n <;> decide
  rw [this, Int.cast_natCast]

/-! ## Weight codes -/

/-- A weight code lies between -8 and 7. -/
theorem weight_bound (b : BitVec 8) (k : ℕ) : -8 ≤ weight b k ∧ weight b k ≤ 8 := by
  have := b.isLt
  unfold weight signed4
  split_ifs <;> omega

/-- The sum of words each between -8 and 8, as many as the rows, does not wrap. -/
theorem word_sum (f : Fin 6912 → BitVec 32) (g : Fin 6912 → ℤ) (h : ∀ k, (f k).toInt = g k) (hg : ∀ k, -8 ≤ g k ∧ g k ≤ 8) :
    (Finset.univ.fold IntOp.addi 0#32 f).toInt = ∑ k, g k := by
  have e : ∀ s : Finset (Fin 6912), s.fold IntOp.addi 0#32 f = BitVec.ofInt 32 (∑ k ∈ s, g k) := by
    intro s
    induction s using Finset.induction_on with
    | empty => rfl
    | insert a s ha ih =>
      rw [Finset.fold_insert ha, Finset.sum_insert ha, ih, BitVec.ofInt_add, ← h a, BitVec.ofInt_toInt]
      rfl
  have lo : -55296 ≤ ∑ k, g k := by
    have := Finset.sum_le_sum (s := Finset.univ) fun k (_ : k ∈ Finset.univ) => (hg k).1
    simpa using this
  have hi : ∑ k, g k ≤ 55296 := by
    have := Finset.sum_le_sum (s := Finset.univ) fun k (_ : k ∈ Finset.univ) => (hg k).2
    simpa using this
  rw [e, BitVec.toInt_ofInt]
  exact Int.bmod_eq_of_le (by omega) (by omega)

/-- A sum of whole numbers is the same whole number summed as extended reals. -/
theorem coe_sum {n : ℕ} (g : Fin n → ℤ) : (((∑ k, g k : ℤ) : ℝ) : EReal) = ∑ k, ((g k : ℝ) : EReal) := by
  have e : ∀ s : Finset (Fin n), (((∑ k ∈ s, g k : ℤ) : ℝ) : EReal) = ∑ k ∈ s, ((g k : ℝ) : EReal) := by
    intro s
    induction s using Finset.induction_on with
    | empty => simp
    | insert a s ha ih => rw [Finset.sum_insert ha, Finset.sum_insert ha, ← ih, Int.cast_add, EReal.coe_add]
  exact e _

end Cert.Quik

end
-- ==== Proof.Kern.Codes.lean ====
/- QUANTISE's values at an element: a row's minimum, scale and codes. -/
module
public import proofs.«01_k».proof.Proof.Spec
public import proofs.«01_k».proof.Proof.Kern.Inv
public import Idealize.ShloMosaic.Lib.BitcastPair

@[expose] public section

set_option maxRecDepth 16384

noncomputable section

namespace Cert.KernelIdeal.Hand

open Idealize.ShloMosaic Cert.KernelIdeal Cert.KernelIdeal.Gen Cert.Quik
open scoped BigOperators

/-- The minimum of a row, -/
theorem pay6_apply (x : Vec Ideal S64x6912 .bf16) (r : Fin 64) (c : Fin 1) : k0_pay6 x (ix2 r c) = rowMin (fun k => x (ix2 r k)) := by
  pointwise [k0_pay6, k0_pay5, inf_bf16]
  rfl

/-- its scale, -/
theorem pay7_apply (x : Vec Ideal S64x6912 .bf16) (r : Fin 64) (c : Fin 1) : k0_pay7 x (ix2 r c) = Cert.Quik.scale (fun k => x (ix2 r k)) := by
  pointwise [k0_pay7, k0_pay5, ninf_bf16, pay6_apply]
  rfl

/-- its code at a column, -/
theorem pay8_apply (x : Vec Ideal S64x6912 .bf16) (r : Fin 64) (k : Fin 6912) : k0_pay8 x (ix2 r k) = code (fun k => x (ix2 r k)) k := by
  pointwise [k0_pay8, k0_pay5, pay6_apply, pay7_apply]
  rfl

/-- the code as the byte stored, -/
theorem pay9_apply (x : Vec Ideal S64x6912 .bf16) (r : Fin 64) (k : Fin 6912) : k0_pay9 x (ix2 r k) = codeByte (fun k => x (ix2 r k)) k := by
  pointwise [k0_pay9, pay8_apply]
  rfl

/-- the code as kept in the scratch, -/
theorem pay10_apply (x : Vec Ideal S64x6912 .bf16) (r : Fin 64) (k : Fin 6912) : k0_pay10 x (ix3 (n0 := 1) 0 r k) = code (fun k => x (ix2 r k)) k := by
  pointwise [k0_pay10, pay8_apply]

/-- a side column as kept in the scratch, -/
theorem pay11_apply (x : Vec Ideal S64x256 .bf16) (r : Fin 64) (k : Fin 256) : k0_pay11 x (ix3 (n0 := 1) 0 r k) = x (ix2 r k) := by
  pointwise [k0_pay11]

/-- the scale as kept, the same at every lane, -/
theorem pay1_12_apply (x : Vec Ideal S64x6912 .bf16) (r : Fin 64) (k : Fin 128) : k0_pay1 (k0_pay12 x) (ix3 (n0 := 1) 0 r k) = Cert.Quik.scale (fun k => x (ix2 r k)) := by
  pointwise [k0_pay1, k0_pay12, pay7_apply]

/-- and the minimum as kept. -/
theorem pay2_6_apply (x : Vec Ideal S64x6912 .bf16) (r : Fin 64) (k : Fin 128) : k0_pay2 (k0_pay6 x) (ix3 (n0 := 1) 0 r k) = rowMin (fun k => x (ix2 r k)) := by
  pointwise [k0_pay2, pay6_apply]

end Cert.KernelIdeal.Hand
end
-- ==== Proof.Kern.Prod.lean ====
/- MULTIPLY's values at an element: the unpacked weights, the products and the result's block. -/
module
public import proofs.«01_k».proof.Proof.Spec
public import proofs.«01_k».proof.Proof.Kern.Inv
public import Idealize.ShloMosaic.Lib.BitcastPair

@[expose] public section

set_option maxRecDepth 16384

noncomputable section

namespace Cert.KernelIdeal.Hand

open Idealize.ShloMosaic Cert.KernelIdeal Cert.KernelIdeal.Gen Cert.Quik
open scoped BigOperators

/-- The column sums of the weight codes, -/
theorem pay24_apply (w : Vec Ideal S3456x256 .i8) (c : Fin 1) (n : Fin 256) : k0_pay24 w (ix2 c n) = ∑ k : Fin 6912, k0_pay23 w (ix2 k n) := by
  pointwise [k0_pay24]

/-- the product of codes, -/
theorem pay25_apply (w : Vec Ideal S3456x256 .i8) (q : Vec Ideal S1x1152x6912 .bf16) (r : Fin 1152) (n : Fin 256) :
    k0_pay25 w q (ix2 r n) = ∑ k : Fin 6912, q (ix3 (n0 := 1) 0 r k) * k0_pay23 w (ix2 k n) := by
  pointwise [k0_pay25]

/-- and the product of the side columns. -/
theorem pay26_apply (x : Vec Ideal S1x1152x256 .bf16) (w : Vec Ideal S256x256 .bf16) (r : Fin 1152) (n : Fin 256) :
    k0_pay26 x w (ix2 r n) = ∑ k : Fin 256, x (ix3 (n0 := 1) 0 r k) * w (ix2 k n) := by
  pointwise [k0_pay26]

/-- The low lane half of a block of the result, -/
theorem pay29_apply (cs : FVec Ideal S1x256 .f32) (acc : FVec Ideal S1152x256 .f32) (x : Vec Ideal S1x1152x256 .bf16) (w : Vec Ideal S256x256 .bf16)
    (ws : Vec Ideal S1x256 .f32) (s z : Vec Ideal S1x1152x128 .f32) (r : Fin 1152) (l : Fin 128) :
    k0_pay29 cs acc x w ws s z (ix2 r l) = combine (s (ix3 (n0 := 1) 0 r l)) (z (ix3 (n0 := 1) 0 r l)) (ws (ix2 (n0 := 1) 0 (⟨l.val, by omega⟩ : Fin 256)))
      (acc (ix2 r (⟨l.val, by omega⟩ : Fin 256))) (cs (ix2 (n0 := 1) 0 (⟨l.val, by omega⟩ : Fin 256))) (k0_pay26 x w (ix2 r (⟨l.val, by omega⟩ : Fin 256))) := by
  pointwise [k0_pay29, k0_pay27, k0_pay28, combine]

/-- and the high lane half. -/
theorem pay3_30_apply (cs : FVec Ideal S1x256 .f32) (acc : FVec Ideal S1152x256 .f32) (sd : FVec Ideal S1152x256 .f32)
    (ws : Vec Ideal S1x256 .f32) (s z : Vec Ideal S1x1152x128 .f32) (r : Fin 1152) (l : Fin 128) :
    k0_pay3 sd (k0_pay30 cs acc ws s z) (ix2 r l) = combine (s (ix3 (n0 := 1) 0 r l)) (z (ix3 (n0 := 1) 0 r l)) (ws (ix2 (n0 := 1) 0 (⟨128 + l.val, by omega⟩ : Fin 256)))
      (acc (ix2 r (⟨128 + l.val, by omega⟩ : Fin 256))) (cs (ix2 (n0 := 1) 0 (⟨128 + l.val, by omega⟩ : Fin 256))) (sd (ix2 r (⟨128 + l.val, by omega⟩ : Fin 256))) := by
  pointwise [k0_pay3, k0_pay30, k0_pay27, k0_pay28, combine]

/-- The word the kernel builds out of a byte: the low four bits, read with their sign, in its low half and the
    high four bits in its high half. -/
def pairWord (b : BitVec 8) : BitVec 32 :=
  (((((b.setWidth 32) &&& 15#32) ^^^ 8#32) - 8#32) &&& 65535#32)
    ||| ((((((b.setWidth 32).sshiftRight 4) &&& 15#32) ^^^ 8#32) - 8#32) <<< 16)

/-- The halves of that word, read as signed numbers, are the two weight codes of the byte. -/
theorem pairWord_half (b : BitVec 8) (p : Fin 2) :
    ((pairWord b).extractLsb' (16 * p.val) 16).toInt = weight b p.val := by
  have h : ∀ (n : Fin 256) (p : Fin 2),
      ((pairWord (BitVec.ofFin n)).extractLsb' (16 * p.val) 16).toInt = weight (BitVec.ofFin n) p.val := by
    decide +kernel
  exact h b.toFin p

/-- A weight code depends on its row's parity only. -/
theorem weight_mod (b : BitVec 8) (k : ℕ) : weight b (k % 2) = weight b k := by
  unfold weight
  rw [Nat.mod_mod]

/-- The weights the kernel multiplies by, unpacked. -/
theorem pay23_apply (w : Vec Ideal S3456x256 .i8) (k : Fin 6912) (n : Fin 256) :
    k0_pay23 w (ix2 k n) = ((weight (w (ix2 (⟨k.val / 2, by omega⟩ : Fin 3456) n)) k.val : ℝ) : EReal) := by
  unfold k0_pay23
  show ((BitVec.toInt (bitcast S6912x256 16 _ _ (ix2 k n)) : ℝ) : EReal) = _
  rw [bitcast_32_16]
  have hr : S6912x256.row (ix2 k n) = k.val := rfl
  have hi : ∀ h, bitcasts_S3456x256_w32_S6912x256_w16.srcIdx (ix2 k n) (S6912x256.row (ix2 k n) / 2) h
      = ix2 (⟨k.val / 2, by omega⟩ : Fin 3456) n := by
    intro h
    funext a; apply Fin.ext
    match a with
    | ⟨0, _⟩ => rfl
    | ⟨1, _⟩ => rfl
  rw [hi, hr]
  have := pairWord_half (w (ix2 (⟨k.val / 2, by omega⟩ : Fin 3456) n)) ⟨k.val % 2, by omega⟩
  rw [weight_mod] at this
  rw [← this]
  rfl

end Cert.KernelIdeal.Hand
end
-- ==== Proof.Kern.Values.lean ====
/- The kernel's four result arrays read at an element. -/
module

public import proofs.«01_k».proof.Proof.Kern.Codes
public import proofs.«01_k».proof.Proof.Kern.Prod

@[expose] public section

set_option maxRecDepth 16384

noncomputable section

namespace Cert.KernelIdeal.Hand

open Idealize.ShloMosaic Cert.KernelIdeal Cert.KernelIdeal.Gen Cert.Quik
open scoped BigOperators

variable (X : Vec Ideal S18432x7168 .bf16)

/-- A row of the activations, without its side columns. -/
def rowOf (r : Fin 18432) : Fin 6912 → EReal := fun k => X (ix2 r (⟨k.val, by omega⟩ : Fin 7168))

/-- A row's place in its block of sixty-four is that row. -/
theorem xBase_row (r : Fin 18432) : (fun k : Fin 6912 => xBase (xblk X (r.val / 64)) (ix2 (inBlk r.val) k)) = rowOf X r := by
  funext k
  have hr := r.isLt
  unfold rowOf
  refine congrArg X (funext fun a => Fin.ext ?_)
  fin_cases a
  · show 64 * min (r.val / 64) 287 + (0 + 1 * (r.val % 64)) = r.val
    omega
  · show 0 + 1 * k.val = k.val
    omega

/-- The same of its side columns. -/
theorem xSide_row (r : Fin 18432) (k : Fin 256) :
    xSide (xblk X (r.val / 64)) (ix2 (inBlk r.val) k) = X (ix2 r (⟨6912 + k.val, by omega⟩ : Fin 7168)) := by
  have hr := r.isLt
  refine congrArg X (funext fun a => Fin.ext ?_)
  fin_cases a
  · show 64 * min (r.val / 64) 287 + (0 + 1 * (r.val % 64)) = r.val
    omega
  · show 6912 + 1 * k.val = 6912 + k.val
    omega

/-- A row's entry of the code scratch is its code below column 6912, -/
theorem codeAt_base (r : Fin 18432) (k : Fin 6912) (h : k.val < 7168) : codeAt X r.val ⟨k.val, h⟩ = code (rowOf X r) k := by
  unfold codeAt
  rw [dif_pos k.isLt, pay10_apply, xBase_row]

/-- and its side column from there on. -/
theorem codeAt_side (r : Fin 18432) (k : Fin 256) (h : 6912 + k.val < 7168) :
    codeAt X r.val ⟨6912 + k.val, h⟩ = X (ix2 r (⟨6912 + k.val, h⟩ : Fin 7168)) := by
  have e : (⟨6912 + k.val - 6912, by omega⟩ : Fin 256) = k := Fin.ext (by show 6912 + k.val - 6912 = k.val; omega)
  unfold codeAt
  rw [dif_neg (by show ¬ 6912 + k.val < 6912; omega), pay11_apply]
  refine Eq.trans ?_ (xSide_row X r k)
  exact congrArg (fun k => xSide (xblk X (r.val / 64)) (ix2 (inBlk r.val) k)) e

/-- A row's scale at any lane, -/
theorem scaleAt_eq (r : Fin 18432) (l : Fin 128) : scaleAt X r.val l = scale (rowOf X r) := by
  unfold scaleAt
  rw [pay1_12_apply, xBase_row]

/-- and its minimum at any lane. -/
theorem zeroAt_eq (r : Fin 18432) (l : Fin 128) : zeroAt X r.val l = rowMin (rowOf X r) := by
  unfold zeroAt
  rw [pay2_6_apply, xBase_row]

/-- An element of a block of the first result. -/
theorem mulOut_apply (b : ℕ) (wb : Vec Ideal S3456x256 .i8) (ws : Vec Ideal S1x256 .f32) (wo : Vec Ideal S256x256 .bf16) (j : Fin 1152) (n : Fin 256)
    (r : Fin 18432) (hr : r.val = 1152 * b + j.val) :
    mulOut X b wb ws wo (ix2 j n) = result (rowOf X r) (fun k => X (ix2 r (⟨6912 + k.val, by omega⟩ : Fin 7168))) (fun i => wb (ix2 i n))
      (ws (ix2 (n0 := 1) 0 n)) (fun k => wo (ix2 k n)) := by
  have hC : ∀ k : Fin 6912, codesOf X b (ix3 (n0 := 1) 0 j k) = code (rowOf X r) k := fun k => by
    rw [← codeAt_base X r k (by omega), hr]; rfl
  have hD : ∀ k : Fin 256, sidesOf X b (ix3 (n0 := 1) 0 j k) = X (ix2 r (⟨6912 + k.val, by omega⟩ : Fin 7168)) := fun k => by
    rw [← codeAt_side X r k (by omega), hr]; rfl
  have hS : ∀ l : Fin 128, scalesOf X b (ix3 (n0 := 1) 0 j l) = scale (rowOf X r) := fun l => by
    rw [← scaleAt_eq X r l, hr]; rfl
  have hZ : ∀ l : Fin 128, zerosOf X b (ix3 (n0 := 1) 0 j l) = rowMin (rowOf X r) := fun l => by
    rw [← zeroAt_eq X r l, hr]; rfl
  unfold mulOut result
  by_cases h : n.val < 128
  · rw [dif_pos (show ((ix2 j n : S1152x256.Idx) 1).val < 128 from h)]
    refine (pay29_apply _ _ _ _ _ _ _ j ⟨n.val, h⟩).trans ?_
    simp only [pay24_apply, pay25_apply, pay26_apply, pay23_apply, hC, hD, hS, hZ]
  · rw [dif_neg (show ¬ ((ix2 j n : S1152x256.Idx) 1).val < 128 from h)]
    have e : (⟨128 + (n.val - 128), by omega⟩ : Fin 256) = n := Fin.ext (by show 128 + (n.val - 128) = n.val; omega)
    refine (pay3_30_apply _ _ _ _ _ _ j ⟨n.val - 128, by omega⟩).trans ?_
    simp only [pay24_apply, pay25_apply, pay26_apply, pay23_apply, hC, hD, hS, hZ, e]

/-- An element of the first result. -/
theorem outY_apply (W : Vec Ideal S3456x4608 .i8) (WS : Vec Ideal S1x4608 .f32) (WO : Vec Ideal S256x4608 .bf16) (r : Fin 18432) (n : Fin 4608) :
    outY X W WS WO (ix2 r n) = result (rowOf X r) (fun k => X (ix2 r (⟨6912 + k.val, by omega⟩ : Fin 7168))) (fun i => W (ix2 i n))
      (WS (ix2 (n0 := 1) 0 n)) (fun k => WO (ix2 k n)) := by
  have e : ∀ h, (⟨256 * (n.val / 256) + n.val % 256, h⟩ : Fin 4608) = n := fun h => Fin.ext (by show 256 * (n.val / 256) + n.val % 256 = n.val; omega)
  unfold outY
  refine (mulOut_apply X (r.val / 1152) _ _ _ ⟨r.val % 1152, by omega⟩ ⟨n.val % 256, by omega⟩ r (by show r.val = 1152 * (r.val / 1152) + r.val % 1152; omega)).trans ?_
  have hw : (fun i : Fin 3456 => wblk W (⟨n.val / 256, by omega⟩ : Fin 18) (ix2 i (⟨n.val % 256, by omega⟩ : Fin 256))) = fun i => W (ix2 i n) :=
    funext fun i => congrArg (fun n => W (ix2 i n)) (e (by omega))
  have ho : (fun i : Fin 256 => oblk WO (⟨n.val / 256, by omega⟩ : Fin 18) (ix2 i (⟨n.val % 256, by omega⟩ : Fin 256))) = fun i => WO (ix2 i n) :=
    funext fun i => congrArg (fun n => WO (ix2 i n)) (e (by omega))
  have hs : sblk WS (⟨n.val / 256, by omega⟩ : Fin 18) (ix2 (n0 := 1) 0 (⟨n.val % 256, by omega⟩ : Fin 256)) = WS (ix2 (n0 := 1) 0 n) :=
    congrArg (fun n => WS (ix2 (n0 := 1) 0 n)) (e (by omega))
  rw [← hw, ← ho, ← hs]
  rfl

/-- An element of the codes, -/
theorem outQ_apply (r : Fin 18432) (k : Fin 6912) : outQ X (ix2 r k) = codeByte (rowOf X r) k := by
  unfold outQ
  rw [← xBase_row]
  exact pay9_apply _ _ _

/-- of the scales, -/
theorem outS_apply (a : Fin 16) (u : Fin 1) (b : Fin 1152) : outS X (ix3 a u b) = scale (rowOf X ⟨1152 * a.val + b.val, by omega⟩) :=
  scaleAt_eq X ⟨1152 * a.val + b.val, by omega⟩ 0

/-- and of the minima. -/
theorem outZ_apply (a : Fin 16) (u : Fin 1) (b : Fin 1152) : outZ X (ix3 a u b) = rowMin (rowOf X ⟨1152 * a.val + b.val, by omega⟩) :=
  zeroAt_eq X ⟨1152 * a.val + b.val, by omega⟩ 0

end Cert.KernelIdeal.Hand
end
-- ==== Proof.Ref.Values.lean ====
/- The reference's four results as a composition of named stages. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.Quik
open scoped BigOperators

section Stages

variable {F : FTy → Type} [FloatOps F]

/-- The rows' minima, -/
def rMin (A : Vec F S16x1152x7168 .bf16) : Vec F S16x1152 .f32 :=
  Host.reduce FloatOps.minimumf (extf .f32 (extractStridedSlice S16x1152x6912 ![0, 0, 0] A slices_S16x1152x7168_S16x1152x6912_0_0_0) bitsLt_bf16_f32) (constant S_ .f32 0x7F800000#32) reducesTo_S16x1152x6912_S16x1152_d2 h_S_

/-- their maxima, -/
def rMax (A : Vec F S16x1152x7168 .bf16) : Vec F S16x1152 .f32 :=
  Host.reduce FloatOps.maximumf (extf .f32 (extractStridedSlice S16x1152x6912 ![0, 0, 0] A slices_S16x1152x7168_S16x1152x6912_0_0_0) bitsLt_bf16_f32) (constant S_ .f32 0xFF800000#32) reducesTo_S16x1152x6912_S16x1152_d2 h_S_

/-- their scales, -/
def rScale (mx mn : Vec F S16x1152 .f32) : Vec F S16x1152 .f32 :=
  select (cmpf .oeq mx mn) (broadcastInDim S16x1152 ![] bcast_S_S16x1152 (constant S_ .f32 0x3F800000#32)) (Host.divf (subf mx mn) (broadcastInDim S16x1152 ![] bcast_S_S16x1152 (constant S_ .f32 0x41700000#32)))

/-- the codes before they are stored, -/
def rClip (A : Vec F S16x1152x7168 .bf16) (mn sc : Vec F S16x1152 .f32) : Vec F S16x1152x6912 .f32 :=
  minimumf (broadcastInDim S16x1152x6912 ![] bcast_S_S16x1152x6912 (id (constant S_ .f32 0x41700000#32))) (maximumf (broadcastInDim S16x1152x6912 ![] bcast_S_S16x1152x6912 (id (constant S_ .f32 0x00000000#32))) (Host.roundeven (Host.divf (subf (extf .f32 (extractStridedSlice S16x1152x6912 ![0, 0, 0] A slices_S16x1152x7168_S16x1152x6912_0_0_0) bitsLt_bf16_f32) (broadcastInDim S16x1152x6912 ![0, 1, 2] bcast_S16x1152x1_S16x1152x6912_0_1_2 (broadcastInDim S16x1152x1 ![0, 1] bcast_S16x1152_S16x1152x1_0_1 mn))) (broadcastInDim S16x1152x6912 ![0, 1, 2] bcast_S16x1152x1_S16x1152x6912_0_1_2 (broadcastInDim S16x1152x1 ![0, 1] bcast_S16x1152_S16x1152x1_0_1 sc)))))

/-- and the codes stored. -/
def rByte (v : Vec F S16x1152x6912 .f32) : Vec F S16x1152x6912 .i8 :=
  trunci 8 (fptosi 32 v) natLt_8_32

/-- The low four bits of each packed byte with their sign, -/
def rLow (W : Vec F S3456x4608 .i8) : Vec F S3456x4608 .i32 :=
  select (cmpi .sge (andi (extui 32 W natLt_8_32) (broadcastInDim S3456x4608 ![] bcast_S_S3456x4608 (constantI S_ 32 15#32))) (broadcastInDim S3456x4608 ![] bcast_S_S3456x4608 (constantI S_ 32 8#32))) (subi (andi (extui 32 W natLt_8_32) (broadcastInDim S3456x4608 ![] bcast_S_S3456x4608 (constantI S_ 32 15#32))) (broadcastInDim S3456x4608 ![] bcast_S_S3456x4608 (constantI S_ 32 16#32))) (andi (extui 32 W natLt_8_32) (broadcastInDim S3456x4608 ![] bcast_S_S3456x4608 (constantI S_ 32 15#32)))

/-- the high four bits, -/
def rHigh (W : Vec F S3456x4608 .i8) : Vec F S3456x4608 .i32 :=
  select (cmpi .sge (andi (Host.shrsi (extui 32 W natLt_8_32) (broadcastInDim S3456x4608 ![] bcast_S_S3456x4608 (constantI S_ 32 4#32))) (broadcastInDim S3456x4608 ![] bcast_S_S3456x4608 (constantI S_ 32 15#32))) (broadcastInDim S3456x4608 ![] bcast_S_S3456x4608 (constantI S_ 32 8#32))) (subi (andi (Host.shrsi (extui 32 W natLt_8_32) (broadcastInDim S3456x4608 ![] bcast_S_S3456x4608 (constantI S_ 32 4#32))) (broadcastInDim S3456x4608 ![] bcast_S_S3456x4608 (constantI S_ 32 15#32))) (broadcastInDim S3456x4608 ![] bcast_S_S3456x4608 (constantI S_ 32 16#32))) (andi (Host.shrsi (extui 32 W natLt_8_32) (broadcastInDim S3456x4608 ![] bcast_S_S3456x4608 (constantI S_ 32 4#32))) (broadcastInDim S3456x4608 ![] bcast_S_S3456x4608 (constantI S_ 32 15#32)))

/-- the two interleaved by rows, -/
def rWeight (lo hi : Vec F S3456x4608 .i32) : Vec F S6912x4608 .i32 :=
  shapeCast S6912x4608 (concatenate S3456x2x4608 1 [⟨S3456x1x4608, (broadcastInDim S3456x1x4608 ![0, 2] bcast_S3456x4608_S3456x1x4608_0_2 lo)⟩, ⟨S3456x1x4608, (broadcastInDim S3456x1x4608 ![0, 2] bcast_S3456x4608_S3456x1x4608_0_2 hi)⟩] concatenates_S3456x1x4608_S3456x1x4608_S3456x2x4608_d1) shapeCasts_S3456x2x4608_S6912x4608

/-- and each column's sum. -/
def rSum (w : Vec F S6912x4608 .i32) : Vec F S4608 .i32 :=
  Host.reduce IntOp.addi w (constantI S_ 32 0#32) reducesTo_S6912x4608_S4608_d0 h_S_

/-- The product of codes, -/
def rAcc (q : Vec F S16x1152x6912 .i8) (w : Vec F S6912x4608 .i32) : Vec F S16x1152x4608 .f32 :=
  Host.dotGeneral dot_S16x1152x6912_S6912x4608_S16x1152x4608_2_0_01_1_n_n none (sitofp .bf16 (extui 32 q natLt_8_32)) (sitofp .bf16 w)

/-- the product of the side columns, -/
def rSide (A : Vec F S16x1152x7168 .bf16) (WO : Vec F S256x4608 .bf16) : Vec F S16x1152x4608 .f32 :=
  Host.dotGeneral dot_S16x1152x256_S256x4608_S16x1152x4608_2_0_01_1_n_n none (extractStridedSlice S16x1152x256 ![0, 0, 6912] A slices_S16x1152x7168_S16x1152x256_0_0_6912) WO

/-- and the layer's result. -/
def rOut (sc mn : Vec F S16x1152 .f32) (WS : Vec F S4608 .f32) (acc side : Vec F S16x1152x4608 .f32) (cs : Vec F S4608 .i32) : Vec F S16x1152x4608 .bf16 :=
  truncf .bf16 (addf (addf (mulf (mulf (broadcastInDim S16x1152x4608 ![0, 1, 2] bcast_S16x1152x1_S16x1152x4608_0_1_2 (broadcastInDim S16x1152x1 ![0, 1] bcast_S16x1152_S16x1152x1_0_1 sc)) (broadcastInDim S16x1152x4608 ![0, 1, 2] bcast_S1x1x4608_S16x1152x4608_0_1_2 (broadcastInDim S1x1x4608 ![2] bcast_S4608_S1x1x4608_2 WS))) acc) (mulf (broadcastInDim S16x1152x4608 ![0, 1, 2] bcast_S16x1152x1_S16x1152x4608_0_1_2 (broadcastInDim S16x1152x1 ![0, 1] bcast_S16x1152_S16x1152x1_0_1 mn)) (broadcastInDim S16x1152x4608 ![0, 1, 2] bcast_S1x1x4608_S16x1152x4608_0_1_2 (broadcastInDim S1x1x4608 ![2] bcast_S4608_S1x1x4608_2 (mulf WS (sitofp .f32 cs)))))) side) bitsLt_bf16_f32

/-! ## The four results as arrays of the arguments -/

/-- The scales of the rows, -/
abbrev scales (A : Vec F S16x1152x7168 .bf16) : Vec F S16x1152 .f32 := rScale (rMax A) (rMin A)

/-- the codes stored, -/
abbrev bytes (A : Vec F S16x1152x7168 .bf16) : Vec F S16x1152x6912 .i8 := rByte (rClip A (rMin A) (scales A))

/-- the weight codes, -/
abbrev weights (W : Vec F S3456x4608 .i8) : Vec F S6912x4608 .i32 := rWeight (rLow W) (rHigh W)

/-- and the layer's result. -/
abbrev layer (A : Vec F S16x1152x7168 .bf16) (W : Vec F S3456x4608 .i8) (WS : Vec F S4608 .f32) (WO : Vec F S256x4608 .bf16) : Vec F S16x1152x4608 .bf16 :=
  rOut (scales A) (rMin A) WS (rAcc (bytes A) (weights W)) (rSide A WO) (rSum (weights W))

/-- The first result's composed term is these stages. -/
theorem out0_eq (m : (ℓ : Loc nD τ sig) → Buf (Elt F) ℓ) (c : Dev nD) : Value.res_main_v63 m c
    = shapeCast S18432x4608 (layer (m ((c.tc : Thread nD τ).loc main_arg0)) (m ((c.tc : Thread nD τ).loc main_arg1))
        (m ((c.tc : Thread nD τ).loc main_arg2)) (m ((c.tc : Thread nD τ).loc main_arg3))) shapeCasts_S16x1152x4608_S18432x4608 := rfl

/-- The reference's run: its four results are these stages of the arguments, the arguments unchanged. -/
theorem values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = shapeCast S18432x4608 (layer (m ((c.tc : Thread nD τ).loc main_arg0)) (m ((c.tc : Thread nD τ).loc main_arg1))
        (m ((c.tc : Thread nD τ).loc main_arg2)) (m ((c.tc : Thread nD τ).loc main_arg3))) shapeCasts_S16x1152x4608_S18432x4608
      ∧ r.2.mem ((c.tc : Thread nD τ).loc main_v64) = shapeCast S18432x6912 (bytes (m ((c.tc : Thread nD τ).loc main_arg0))) shapeCasts_S16x1152x6912_S18432x6912
      ∧ r.2.mem ((c.tc : Thread nD τ).loc main_v65) = shapeCast S16x1x1152 (scales (m ((c.tc : Thread nD τ).loc main_arg0))) shapeCasts_S16x1152_S16x1x1152
      ∧ r.2.mem ((c.tc : Thread nD τ).loc main_v66) = shapeCast S16x1x1152 (rMin (m ((c.tc : Thread nD τ).loc main_arg0))) shapeCasts_S16x1152_S16x1x1152
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out0_eq m c), (h c).2.1, (h c).2.2.1, (h c).2.2.2.1, (h c).2.2.2.2⟩) (Value.run m ρ)

end Stages

end Cert.ReferenceIdeal.Hand
end
-- ==== Proof.Ref.Elements.lean ====
/- The reference's stages read at an element, and so its four results. -/
module

public import proofs.«01_k».proof.Proof.Ref.Values
public import Idealize.ShloMosaic.Lib.Pointwise

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.Quik
open scoped BigOperators

/-- A row of the activations, without its side columns. -/
def row (A : Vec Ideal S16x1152x7168 .bf16) (a : Fin 16) (b : Fin 1152) : Fin 6912 → EReal := fun k => A (ix3 a b (⟨k.val, by omega⟩ : Fin 7168))

/-- A row's minimum, -/
theorem rMin_apply (A : Vec Ideal S16x1152x7168 .bf16) (a : Fin 16) (b : Fin 1152) : rMin A (ix2 a b) = rowMin (row A a b) := by
  pointwise [rMin, inf_f32]
  rfl

/-- its maximum, -/
theorem rMax_apply (A : Vec Ideal S16x1152x7168 .bf16) (a : Fin 16) (b : Fin 1152) : rMax A (ix2 a b) = rowMax (row A a b) := by
  pointwise [rMax, ninf_f32]
  rfl

/-- its scale from the two, -/
theorem rScale_apply (mx mn : Vec Ideal S16x1152 .f32) (a : Fin 16) (b : Fin 1152) :
    rScale mx mn (ix2 a b) = if mx (ix2 a b) = mn (ix2 a b) then 1 else Ideal.div (mx (ix2 a b) - mn (ix2 a b)) top15 := by
  pointwise [rScale]

/-- its code before it is stored, -/
theorem rClip_apply (A : Vec Ideal S16x1152x7168 .bf16) (mn sc : Vec Ideal S16x1152 .f32) (a : Fin 16) (b : Fin 1152) (k : Fin 6912) :
    rClip A mn sc (ix3 a b k)
      = min top15 (max 0 (Ideal.liftRound Ideal.roundHalfEven (Ideal.div (A (ix3 a b (⟨k.val, by omega⟩ : Fin 7168)) - mn (ix2 a b)) (sc (ix2 a b))))) := by
  pointwise [rClip, id_eq]

/-- and the code stored. -/
theorem rByte_apply (v : Vec Ideal S16x1152x6912 .f32) (a : Fin 16) (b : Fin 1152) (k : Fin 6912) : rByte v (ix3 a b k) = (Ideal.fptosi 32 (v (ix3 a b k))).setWidth 8 := by
  pointwise [rByte]
  rfl

/-- The low four bits of a word with their sign, as the reference takes them. -/
def nib (v : BitVec 32) : BitVec 32 := Scalar.select (IntOp.cmpi .sge (IntOp.andi v 15#32) 8#32) (IntOp.subi (IntOp.andi v 15#32) 16#32) (IntOp.andi v 15#32)

/-- The reference's low four bits with their sign, -/
theorem nib_low (b : BitVec 8) : (nib (b.setWidth 32)).toInt = signed4 (b.toNat % 16) := by
  have h : ∀ n : Fin 256, (nib ((BitVec.ofFin n : BitVec 8).setWidth 32)).toInt = signed4 ((BitVec.ofFin n : BitVec 8).toNat % 16) := by decide +kernel
  exact h b.toFin

/-- and its high four bits. -/
theorem nib_high (b : BitVec 8) : (nib (IntOp.shrsi ArithUnit.host (b.setWidth 32) 4#32)).toInt = signed4 (b.toNat / 16) := by
  have h : ∀ n : Fin 256, (nib (IntOp.shrsi ArithUnit.host ((BitVec.ofFin n : BitVec 8).setWidth 32) 4#32)).toInt = signed4 ((BitVec.ofFin n : BitVec 8).toNat / 16) := by decide +kernel
  exact h b.toFin

/-- Even rows of the unpacked weights are the low bits, odd rows the high ones. -/
theorem rWeight_apply (lo hi : Vec Ideal S3456x4608 .i32) (k : Fin 6912) (n : Fin 4608) :
    rWeight lo hi (ix2 k n) = if k.val % 2 = 0 then lo (ix2 (⟨k.val / 2, by omega⟩ : Fin 3456) n) else hi (ix2 (⟨k.val / 2, by omega⟩ : Fin 3456) n) := by
  pointwise [rWeight]
  by_cases h : k.val % 2 = 0
  · rw [if_pos h, dif_pos (by omega)]
  · rw [if_neg h, dif_neg (by omega)]

/-- The low codes of the packed weights, -/
theorem rLow_apply (W : Vec Ideal S3456x4608 .i8) (k : Fin 3456) (n : Fin 4608) : (rLow W (ix2 k n)).toInt = signed4 ((W (ix2 k n)).toNat % 16) := by
  rw [← nib_low]
  pointwise [rLow, nib]

/-- the high ones, -/
theorem rHigh_apply (W : Vec Ideal S3456x4608 .i8) (k : Fin 3456) (n : Fin 4608) : (rHigh W (ix2 k n)).toInt = signed4 ((W (ix2 k n)).toNat / 16) := by
  rw [← nib_high]
  pointwise [rHigh, nib]

/-- and the unpacked weights. -/
theorem weights_apply (W : Vec Ideal S3456x4608 .i8) (k : Fin 6912) (n : Fin 4608) : (weights W (ix2 k n)).toInt = weight (W (ix2 (⟨k.val / 2, by omega⟩ : Fin 3456) n)) k.val := by
  unfold weights
  rw [rWeight_apply]
  unfold weight
  split_ifs
  · exact rLow_apply W _ n
  · exact rHigh_apply W _ n

/-- A column's sum, as words, -/
theorem rSum_apply (w : Vec Ideal S6912x4608 .i32) (n : Fin 4608) : rSum w (ix1 n) = Finset.univ.fold IntOp.addi 0#32 fun k : Fin 6912 => w (ix2 k n) := by
  pointwise [rSum]

/-- the product of codes, -/
theorem rAcc_apply (q : Vec Ideal S16x1152x6912 .i8) (w : Vec Ideal S6912x4608 .i32) (a : Fin 16) (b : Fin 1152) (n : Fin 4608) :
    rAcc q w (ix3 a b n) = ∑ k : Fin 6912, ((((q (ix3 a b k)).setWidth 32).toInt : ℝ) : EReal) * (((w (ix2 k n)).toInt : ℝ) : EReal) := by
  pointwise [rAcc]
  rfl

/-- the product of the side columns, -/
theorem rSide_apply (A : Vec Ideal S16x1152x7168 .bf16) (WO : Vec Ideal S256x4608 .bf16) (a : Fin 16) (b : Fin 1152) (n : Fin 4608) :
    rSide A WO (ix3 a b n) = ∑ k : Fin 256, A (ix3 a b (⟨6912 + k.val, by omega⟩ : Fin 7168)) * WO (ix2 k n) := by
  pointwise [rSide]

/-- and the result from all of these. -/
theorem rOut_apply (sc mn : Vec Ideal S16x1152 .f32) (WS : Vec Ideal S4608 .f32) (acc side : Vec Ideal S16x1152x4608 .f32) (cs : Vec Ideal S4608 .i32)
    (a : Fin 16) (b : Fin 1152) (n : Fin 4608) : rOut sc mn WS acc side cs (ix3 a b n)
      = combine (sc (ix2 a b)) (mn (ix2 a b)) (WS (ix1 n)) (acc (ix3 a b n)) (((cs (ix1 n)).toInt : ℝ) : EReal) (side (ix3 a b n)) := by
  pointwise [rOut, combine]
  rfl

/-- The result with its first two axes merged, -/
theorem flat_out (v : Vec Ideal S16x1152x4608 .bf16) (r : Fin 18432) (n : Fin 4608) : shapeCast S18432x4608 v shapeCasts_S16x1152x4608_S18432x4608 (ix2 r n)
    = v (ix3 (⟨r.val / 1152, by omega⟩ : Fin 16) (⟨r.val % 1152, by omega⟩ : Fin 1152) n) := by
  pointwise

/-- the codes with theirs merged, -/
theorem flat_codes (v : Vec Ideal S16x1152x6912 .i8) (r : Fin 18432) (k : Fin 6912) : shapeCast S18432x6912 v shapeCasts_S16x1152x6912_S18432x6912 (ix2 r k)
    = v (ix3 (⟨r.val / 1152, by omega⟩ : Fin 16) (⟨r.val % 1152, by omega⟩ : Fin 1152) k) := by
  pointwise

/-- and the rows' values with an axis of size one put in. -/
theorem flat_rows (v : Vec Ideal S16x1152 .f32) (a : Fin 16) (u : Fin 1) (b : Fin 1152) : shapeCast S16x1x1152 v shapeCasts_S16x1152_S16x1x1152 (ix3 a u b)
    = v (ix2 a b) := by
  pointwise

/-! ## The results at an element -/

/-- The scales are the layer's, -/
theorem scales_apply (A : Vec Ideal S16x1152x7168 .bf16) (a : Fin 16) (b : Fin 1152) : scales A (ix2 a b) = scale (row A a b) := by
  unfold scales
  rw [rScale_apply, rMax_apply, rMin_apply, scale]

/-- the codes are the layer's, -/
theorem bytes_apply (A : Vec Ideal S16x1152x7168 .bf16) (a : Fin 16) (b : Fin 1152) (k : Fin 6912) : bytes A (ix3 a b k) = codeByte (row A a b) k := by
  unfold bytes
  rw [rByte_apply, rClip_apply, rMin_apply, scales_apply, codeByte, code]
  rfl

/-- and the result is the layer's: the column's sum of words does not wrap. -/
theorem layer_apply (A : Vec Ideal S16x1152x7168 .bf16) (W : Vec Ideal S3456x4608 .i8) (WS : Vec Ideal S4608 .f32) (WO : Vec Ideal S256x4608 .bf16)
    (a : Fin 16) (b : Fin 1152) (n : Fin 4608) : layer A W WS WO (ix3 a b n)
      = result (row A a b) (fun k => A (ix3 a b (⟨6912 + k.val, by omega⟩ : Fin 7168))) (fun i => W (ix2 i n)) (WS (ix1 n)) (fun k => WO (ix2 k n)) := by
  unfold layer result
  rw [rOut_apply, scales_apply, rMin_apply, rAcc_apply, rSide_apply, rSum_apply]
  rw [word_sum _ _ (fun k => weights_apply W k n) (fun k => weight_bound _ _), coe_sum]
  simp only [bytes_apply, codeByte_toInt, weights_apply]

end Cert.ReferenceIdeal.Hand
end
-- ==== Proof.Equation.lean ====
/- The kernel's results equal the reference's: the arrays, element by element, then the claim. -/
module

public import proofs.«01_k».proof.Defs
public import proofs.«01_k».proof.Proof.Kern.Run
public import proofs.«01_k».proof.Proof.Kern.Values
public import proofs.«01_k».proof.Proof.Ref.Elements
public import Idealize.ShloMosaic.Lib.Claim

@[expose] public section

set_option maxRecDepth 16384

noncomputable section

namespace Cert.Equation

open Idealize.ShloMosaic Idealize.ShloMosaic.TcCoe Idealize.SL.Sem Cert.Quik
open Cert.KernelIdeal Cert.KernelIdeal.Gen Cert.KernelIdeal.Hand
open Cert.ReferenceIdeal.Hand (row scales bytes layer rMin scales_apply bytes_apply layer_apply rMin_apply flat_out flat_codes flat_rows)

/-! ## The arguments as the kernel's region finds them -/

section Arguments

variable {F : FTy → Type} [FloatOps F] (m : (ℓ : Loc nD τ sig) → Buf (Elt F) ℓ) (c : Dev nD)

/-- The activations: the argument with its first two axes merged. -/
theorem xArr_eq : xArr m c = shapeCast S18432x7168 (m ((c : Thread nD τ).loc main_arg0)) shapeCasts_S16x1152x7168_S18432x7168 := by
  show StableHlo.after hostOps0 _ _ = _
  after_results_simp
  rfl

/-- The weight scales: the argument with an axis of size one before its own. -/
theorem sArr_eq : sArr m c = shapeCast S1x4608 (m ((c : Thread nD τ).loc main_arg2)) shapeCasts_S4608_S1x4608 := by
  show StableHlo.after hostOps0 _ _ = _
  after_results_simp
  rfl

end Arguments

/-! ## The arrays -/

variable (A : Vec Ideal S16x1152x7168 .bf16) (W : Vec Ideal S3456x4608 .i8) (WS : Vec Ideal S4608 .f32) (WO : Vec Ideal S256x4608 .bf16)

/-- The activations with their first two axes merged. -/
abbrev flatA : Vec Ideal S18432x7168 .bf16 := shapeCast S18432x7168 A shapeCasts_S16x1152x7168_S18432x7168

/-- The weight scales with an axis of size one before their own. -/
abbrev flatS : Vec Ideal S1x4608 .f32 := shapeCast S1x4608 WS shapeCasts_S4608_S1x4608

/-- A row of the merged activations is a row of a batch, -/
theorem flatA_apply (r : Fin 18432) (k : Fin 7168) :
    flatA A (ix2 r k) = A (ix3 (⟨r.val / 1152, by omega⟩ : Fin 16) (⟨r.val % 1152, by omega⟩ : Fin 1152) k) := by
  pointwise [flatA]

/-- a weight scale is the same scale, -/
theorem flatS_apply (u : Fin 1) (n : Fin 4608) : flatS WS (ix2 u n) = WS (ix1 n) := by
  pointwise [flatS]

/-- so the rows quantised are the same -/
theorem rowOf_flatA (r : Fin 18432) : rowOf (flatA A) r = row A (⟨r.val / 1152, by omega⟩ : Fin 16) (⟨r.val % 1152, by omega⟩ : Fin 1152) :=
  funext fun _ => flatA_apply A r _

/-- in either order of naming them. -/
theorem rowOf_pair (a : Fin 16) (b : Fin 1152) : rowOf (flatA A) ⟨1152 * a.val + b.val, by omega⟩ = row A a b := by
  have ea : (⟨(1152 * a.val + b.val) / 1152, by omega⟩ : Fin 16) = a := Fin.ext (by show (1152 * a.val + b.val) / 1152 = a.val; omega)
  have eb : (⟨(1152 * a.val + b.val) % 1152, by omega⟩ : Fin 1152) = b := Fin.ext (by show (1152 * a.val + b.val) % 1152 = b.val; omega)
  rw [rowOf_flatA]
  exact congrArg₂ (row A) ea eb

/-- The layer's result. -/
theorem outY_eq : outY (flatA A) W (flatS WS) WO
    = shapeCast S18432x4608 (layer A W WS WO) Cert.ReferenceIdeal.Gen.shapeCasts_S16x1152x4608_S18432x4608 := by
  funext j
  obtain ⟨r, n, rfl⟩ : ∃ (r : Fin 18432) (n : Fin 4608), j = ix2 r n := ⟨j 0, j 1, eq_ix2 j⟩
  rw [outY_apply]
  refine Eq.trans ?_ (flat_out _ r n).symm
  rw [layer_apply, rowOf_flatA, flatS_apply]
  exact congrArg (fun s => result _ s _ _ _) (funext fun k => flatA_apply A r _)

/-- The codes. -/
theorem outQ_eq : outQ (flatA A) = shapeCast S18432x6912 (bytes A) Cert.ReferenceIdeal.Gen.shapeCasts_S16x1152x6912_S18432x6912 := by
  funext j
  obtain ⟨r, k, rfl⟩ : ∃ (r : Fin 18432) (k : Fin 6912), j = ix2 r k := ⟨j 0, j 1, eq_ix2 j⟩
  rw [outQ_apply]
  refine Eq.trans ?_ (flat_codes _ r k).symm
  rw [bytes_apply, rowOf_flatA]

/-- The scales. -/
theorem outS_eq : outS (flatA A) = shapeCast S16x1x1152 (scales A) Cert.ReferenceIdeal.Gen.shapeCasts_S16x1152_S16x1x1152 := by
  funext j
  obtain ⟨a, u, b, rfl⟩ : ∃ (a : Fin 16) (u : Fin 1) (b : Fin 1152), j = ix3 a u b := ⟨j 0, j 1, j 2, eq_ix3 j⟩
  rw [outS_apply, rowOf_pair]
  exact ((flat_rows _ a u b).trans (scales_apply A a b)).symm

/-- The minima. -/
theorem outZ_eq : outZ (flatA A) = shapeCast S16x1x1152 (rMin A) Cert.ReferenceIdeal.Gen.shapeCasts_S16x1152_S16x1x1152 := by
  funext j
  obtain ⟨a, u, b, rfl⟩ : ∃ (a : Fin 16) (u : Fin 1) (b : Fin 1152), j = ix3 a u b := ⟨j 0, j 1, j 2, eq_ix3 j⟩
  rw [outZ_apply, rowOf_pair]
  exact ((flat_rows _ a u b).trans (rMin_apply A a b)).symm

/-! ## The claim -/

/-- From equal arguments the kernel and the reference end with equal results, all four of them. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => outY (xArr m c) (wArr m c) (sArr m c) (oArr m c), fun c => outQ (xArr m c), fun c => outS (xArr m c), fun c => outZ (xArr m c),
    values m g, (θ_run _ _ _).mono (fun r h c => ?_) (Cert.ReferenceIdeal.Hand.values m' g')⟩
  obtain ⟨a0, a1, a2, a3⟩ := hargs c
  obtain ⟨h0, h1, h2, h3, hrest⟩ := h c
  rw [a0, a1, a2, a3] at h0
  rw [a0] at h1 h2 h3
  have e0 := (congr (congr (congrArg₂ outY (xArr_eq m c) (V_main_arg1 m c)) (sArr_eq m c)) (V_main_arg3 m c)).trans (outY_eq _ _ _ _)
  have e1 := (congrArg outQ (xArr_eq m c)).trans (outQ_eq _)
  have e2 := (congrArg outS (xArr_eq m c)).trans (outS_eq _)
  have e3 := (congrArg outZ (xArr_eq m c)).trans (outZ_eq _)
  exact ⟨h0.trans e0.symm, h1.trans e1.symm, h2.trans e2.symm, h3.trans e3.symm, hrest⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kern.Word
public import proofs.«01_k».proof.Proof.Ref.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All the claims: the three frames, that the kernel over the extended reals is the kernel, and that its four results
    there are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Hand.frame m ρ, trivial,
  Cert.Equation.algebraic⟩

end Cert.Proof

end
